-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x32x32x512 : Shape := ⟨4, ![2, 32, 32, 512]⟩
abbrev S3x3x512x512 : Shape := ⟨4, ![3, 3, 512, 512]⟩
abbrev S512 : Shape := ⟨1, ![512]⟩
abbrev S1x1x512x18 : Shape := ⟨4, ![1, 1, 512, 18]⟩
abbrev S18 : Shape := ⟨1, ![18]⟩
abbrev S1x1x512x36 : Shape := ⟨4, ![1, 1, 512, 36]⟩
abbrev S36 : Shape := ⟨1, ![36]⟩
abbrev S_ : Shape := ⟨0, ![]⟩

class Facts : Prop where
  bcast_S_S2x32x32x512 : S_.BroadcastsInDim S2x32x32x512 (![] : Fin 0 → Fin S2x32x32x512.rank)
  bcast_S_S3x3x512x512 : S_.BroadcastsInDim S3x3x512x512 (![] : Fin 0 → Fin S3x3x512x512.rank)
  bcast_S_S512 : S_.BroadcastsInDim S512 (![] : Fin 0 → Fin S512.rank)
  bcast_S_S1x1x512x18 : S_.BroadcastsInDim S1x1x512x18 (![] : Fin 0 → Fin S1x1x512x18.rank)
  bcast_S_S18 : S_.BroadcastsInDim S18 (![] : Fin 0 → Fin S18.rank)

variable [Facts]

def fn {F : FTy → Type} [FloatOps F] (main_arg0 : FVec F S2x32x32x512 .f32) (main_arg1 : FVec F S3x3x512x512 .f32) (main_arg2 : FVec F S512 .f32) (main_arg3 : FVec F S1x1x512x18 .f32) (main_arg4 : FVec F S18 .f32) (main_arg5 : FVec F S1x1x512x36 .f32) (main_arg6 : FVec F S36 .f32) : IVec S2x32x32x512 1 × IVec S3x3x512x512 1 × IVec S512 1 × IVec S1x1x512x18 1 × IVec S18 1 :=
  let main_v0 : FVec F S2x32x32x512 .f32 := Host.absf main_arg0
  let main_cst : FVec F S_ .f32 := constant S_ .f32 0x7F800000#32
  let main_v1 : FVec F S2x32x32x512 .f32 := broadcastInDim S2x32x32x512 ![] bcast_S_S2x32x32x512 main_cst
  let main_v2 : IVec S2x32x32x512 1 := cmpf .olt main_v0 main_v1
  let main_v3 : FVec F S3x3x512x512 .f32 := Host.absf main_arg1
  let main_cst_0 : FVec F S_ .f32 := constant S_ .f32 0x7F800000#32
  let main_v4 : FVec F S3x3x512x512 .f32 := broadcastInDim S3x3x512x512 ![] bcast_S_S3x3x512x512 main_cst_0
  let main_v5 : IVec S3x3x512x512 1 := cmpf .olt main_v3 main_v4
  let main_v6 : FVec F S512 .f32 := Host.absf main_arg2
  let main_cst_1 : FVec F S_ .f32 := constant S_ .f32 0x7F800000#32
  let main_v7 : FVec F S512 .f32 := broadcastInDim S512 ![] bcast_S_S512 main_cst_1
  let main_v8 : IVec S512 1 := cmpf .olt main_v6 main_v7
  let main_v9 : FVec F S1x1x512x18 .f32 := Host.absf main_arg3
  let main_cst_2 : FVec F S_ .f32 := constant S_ .f32 0x7F800000#32
  let main_v10 : FVec F S1x1x512x18 .f32 := broadcastInDim S1x1x512x18 ![] bcast_S_S1x1x512x18 main_cst_2
  let main_v11 : IVec S1x1x512x18 1 := cmpf .olt main_v9 main_v10
  let main_v12 : FVec F S18 .f32 := Host.absf main_arg4
  let main_cst_3 : FVec F S_ .f32 := constant S_ .f32 0x7F800000#32
  let main_v13 : FVec F S18 .f32 := broadcastInDim S18 ![] bcast_S_S18 main_cst_3
  let main_v14 : IVec S18 1 := cmpf .olt main_v12 main_v13
  (main_v2, main_v5, main_v8, main_v11, main_v14)
-- ==== Kernel.lean ====
abbrev S2x32x32x512 : Shape := ⟨4, ![2, 32, 32, 512]⟩
abbrev S3x3x512x512 : Shape := ⟨4, ![3, 3, 512, 512]⟩
abbrev S512 : Shape := ⟨1, ![512]⟩
abbrev S1x1x512x18 : Shape := ⟨4, ![1, 1, 512, 18]⟩
abbrev S18 : Shape := ⟨1, ![18]⟩
abbrev S1x1x512x36 : Shape := ⟨4, ![1, 1, 512, 36]⟩
abbrev S36 : Shape := ⟨1, ![36]⟩
abbrev S_ : Shape := ⟨0, ![]⟩
abbrev S2x36x34x512 : Shape := ⟨4, ![2, 36, 34, 512]⟩
abbrev S2x1224x512 : Shape := ⟨3, ![2, 1224, 512]⟩
abbrev S9x512x512 : Shape := ⟨3, ![9, 512, 512]⟩
abbrev S512x18 : Shape := ⟨2, ![512, 18]⟩
abbrev S512x36 : Shape := ⟨2, ![512, 36]⟩
abbrev S1x512 : Shape := ⟨2, ![1, 512]⟩
abbrev S1x18 : Shape := ⟨2, ![1, 18]⟩
abbrev S1x36 : Shape := ⟨2, ![1, 36]⟩
abbrev S2x1088x18 : Shape := ⟨3, ![2, 1088, 18]⟩
abbrev S2x1088x36 : Shape := ⟨3, ![2, 1088, 36]⟩
abbrev S2x32x34x9x2 : Shape := ⟨5, ![2, 32, 34, 9, 2]⟩
abbrev S2x32x32x9x2 : Shape := ⟨5, ![2, 32, 32, 9, 2]⟩
abbrev S2x9216x2 : Shape := ⟨3, ![2, 9216, 2]⟩
abbrev S2x32x34x9x4 : Shape := ⟨5, ![2, 32, 34, 9, 4]⟩
abbrev S2x32x32x9x4 : Shape := ⟨5, ![2, 32, 32, 9, 4]⟩
abbrev S2x9216x4 : Shape := ⟨3, ![2, 9216, 4]⟩
abbrev S1x1224x512 : Shape := ⟨3, ![1, 1224, 512]⟩
abbrev S1x1088x18 : Shape := ⟨3, ![1, 1088, 18]⟩
abbrev S1x1088x36 : Shape := ⟨3, ![1, 1088, 36]⟩
abbrev S1224x512 : Shape := ⟨2, ![1224, 512]⟩
abbrev S1088x512 : Shape := ⟨2, ![1088, 512]⟩
abbrev S1x512x512 : Shape := ⟨3, ![1, 512, 512]⟩
abbrev S512x512 : Shape := ⟨2, ![512, 512]⟩
abbrev S1088x18 : Shape := ⟨2, ![1088, 18]⟩
abbrev S1088x36 : Shape := ⟨2, ![1088, 36]⟩
abbrev S18x9 : Shape := ⟨2, ![18, 9]⟩
abbrev S1088x9 : Shape := ⟨2, ![1088, 9]⟩
abbrev S9x18 : Shape := ⟨2, ![9, 18]⟩

abbrev nBuf : Space → Nat
  | .hbm => 25
  | .vmem => 12
  | .smem => 0
  | _ => 0

abbrev bufTy : (tb : Table) → Fin (tcTables nBuf tb) → BufTy
  | .hbm, ⟨0, _⟩ => ⟨S2x32x32x512, .f32⟩
  | .hbm, ⟨1, _⟩ => ⟨S3x3x512x512, .f32⟩
  | .hbm, ⟨2, _⟩ => ⟨S512, .f32⟩
  | .hbm, ⟨3, _⟩ => ⟨S1x1x512x18, .f32⟩
  | .hbm, ⟨4, _⟩ => ⟨S18, .f32⟩
  | .hbm, ⟨5, _⟩ => ⟨S1x1x512x36, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S2x36x34x512, .f32⟩
  | .hbm, ⟨10, _⟩ => ⟨S2x1224x512, .f32⟩
  | .hbm, ⟨11, _⟩ => ⟨S9x512x512, .f32⟩
  | .hbm, ⟨12, _⟩ => ⟨S512x18, .f32⟩
  | .hbm, ⟨13, _⟩ => ⟨S512x36, .f32⟩
  | .hbm, ⟨14, _⟩ => ⟨S1x512, .f32⟩
  | .hbm, ⟨15, _⟩ => ⟨S1x18, .f32⟩
  | .hbm, ⟨16, _⟩ => ⟨S1x36, .f32⟩
  | .hbm, ⟨17, _⟩ => ⟨S2x1088x18, .f32⟩
  | .hbm, ⟨18, _⟩ => ⟨S2x1088x36, .f32⟩
  | .hbm, ⟨19, _⟩ => ⟨S2x32x34x9x2, .f32⟩
  | .hbm, ⟨20, _⟩ => ⟨S2x32x32x9x2, .f32⟩
  | .hbm, ⟨21, _⟩ => ⟨S2x9216x2, .f32⟩
  | .hbm, ⟨22, _⟩ => ⟨S2x32x34x9x4, .f32⟩
  | .hbm, ⟨23, _⟩ => ⟨S2x32x32x9x4, .f32⟩
  | .hbm, ⟨24, _⟩ => ⟨S2x9216x4, .f32⟩
  | .local _ .vmem, ⟨0, _⟩ => ⟨S1x1224x512, .f32⟩
  | .local _ .vmem, ⟨1, _⟩ => ⟨S1x1224x512, .f32⟩
  | .local _ .vmem, ⟨2, _⟩ => ⟨S9x512x512, .f32⟩
  | .local _ .vmem, ⟨3, _⟩ => ⟨S1x512, .f32⟩
  | .local _ .vmem, ⟨4, _⟩ => ⟨S512x18, .f32⟩
  | .local _ .vmem, ⟨5, _⟩ => ⟨S1x18, .f32⟩
  | .local _ .vmem, ⟨6, _⟩ => ⟨S512x36, .f32⟩
  | .local _ .vmem, ⟨7, _⟩ => ⟨S1x36, .f32⟩
  | .local _ .vmem, ⟨8, _⟩ => ⟨S1x1088x18, .f32⟩
  | .local _ .vmem, ⟨9, _⟩ => ⟨S1x1088x18, .f32⟩
  | .local _ .vmem, ⟨10, _⟩ => ⟨S1x1088x36, .f32⟩
  | .local _ .vmem, ⟨11, _⟩ => ⟨S1x1088x36, .f32⟩
  | _, _ => ⟨S2x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8_0 : Ref sig .tc := ⟨.hbm, 17, rfl⟩
abbrev main_call0_v8_1 : Ref sig .tc := ⟨.hbm, 18, rfl⟩
abbrev main_call0_v9 : Ref sig .tc := ⟨.hbm, 19, rfl⟩
abbrev main_call0_v10 : Ref sig .tc := ⟨.hbm, 20, rfl⟩
abbrev main_v0_0 : Ref sig .tc := ⟨.hbm, 21, rfl⟩
abbrev main_call0_v12 : Ref sig .tc := ⟨.hbm, 22, rfl⟩
abbrev main_call0_v13 : Ref sig .tc := ⟨.hbm, 23, rfl⟩
abbrev main_v0_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1224x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1088x18 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1088x36 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x32x32x512 : Shape := ⟨4, ![2, 32, 32, 512]⟩
abbrev S3x3x512x512 : Shape := ⟨4, ![3, 3, 512, 512]⟩
abbrev S512 : Shape := ⟨1, ![512]⟩
abbrev S1x1x512x18 : Shape := ⟨4, ![1, 1, 512, 18]⟩
abbrev S18 : Shape := ⟨1, ![18]⟩
abbrev S1x1x512x36 : Shape := ⟨4, ![1, 1, 512, 36]⟩
abbrev S36 : Shape := ⟨1, ![36]⟩
abbrev S_ : Shape := ⟨0, ![]⟩
abbrev S2x34x34x512 : Shape := ⟨4, ![2, 34, 34, 512]⟩
abbrev S1x1x512x512 : Shape := ⟨4, ![1, 1, 512, 512]⟩
abbrev S512x512 : Shape := ⟨2, ![512, 512]⟩
abbrev S1x1x1x512 : Shape := ⟨4, ![1, 1, 1, 512]⟩
abbrev S512x18 : Shape := ⟨2, ![512, 18]⟩
abbrev S2x32x32x18 : Shape := ⟨4, ![2, 32, 32, 18]⟩
abbrev S1x1x1x18 : Shape := ⟨4, ![1, 1, 1, 18]⟩
abbrev S2x9216x2 : Shape := ⟨3, ![2, 9216, 2]⟩
abbrev S2x9216 : Shape := ⟨2, ![2, 9216]⟩
abbrev S2x9216x1 : Shape := ⟨3, ![2, 9216, 1]⟩
abbrev S512x36 : Shape := ⟨2, ![512, 36]⟩
abbrev S2x32x32x36 : Shape := ⟨4, ![2, 32, 32, 36]⟩
abbrev S1x1x1x36 : Shape := ⟨4, ![1, 1, 1, 36]⟩
abbrev S2x9216x4 : Shape := ⟨3, ![2, 9216, 4]⟩

abbrev nBuf : Space → Nat
  | .hbm => 89
  | .vmem => 0
  | .smem => 0
  | _ => 0

abbrev bufTy : (tb : Table) → Fin (tcTables nBuf tb) → BufTy
  | .hbm, ⟨0, _⟩ => ⟨S2x32x32x512, .f32⟩
  | .hbm, ⟨1, _⟩ => ⟨S3x3x512x512, .f32⟩
  | .hbm, ⟨2, _⟩ => ⟨S512, .f32⟩
  | .hbm, ⟨3, _⟩ => ⟨S1x1x512x18, .f32⟩
  | .hbm, ⟨4, _⟩ => ⟨S18, .f32⟩
  | .hbm, ⟨5, _⟩ => ⟨S1x1x512x36, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S2x34x34x512, .f32⟩
  | .hbm, ⟨10, _⟩ => ⟨S_, .f32⟩
  | .hbm, ⟨11, _⟩ => ⟨S2x32x32x512, .f32⟩
  | .hbm, ⟨12, _⟩ => ⟨S2x32x32x512, .f32⟩
  | .hbm, ⟨13, _⟩ => ⟨S1x1x512x512, .f32⟩
  | .hbm, ⟨14, _⟩ => ⟨S512x512, .f32⟩
  | .hbm, ⟨15, _⟩ => ⟨S2x32x32x512, .f32⟩
  | .hbm, ⟨16, _⟩ => ⟨S2x32x32x512, .f32⟩
  | .hbm, ⟨17, _⟩ => ⟨S2x32x32x512, .f32⟩
  | .hbm, ⟨18, _⟩ => ⟨S1x1x512x512, .f32⟩
  | .hbm, ⟨19, _⟩ => ⟨S512x512, .f32⟩
  | .hbm, ⟨20, _⟩ => ⟨S2x32x32x512, .f32⟩
  | .hbm, ⟨21, _⟩ => ⟨S2x32x32x512, .f32⟩
  | .hbm, ⟨22, _⟩ => ⟨S2x32x32x512, .f32⟩
  | .hbm, ⟨23, _⟩ => ⟨S1x1x512x512, .f32⟩
  | .hbm, ⟨24, _⟩ => ⟨S512x512, .f32⟩
  | .hbm, ⟨25, _⟩ => ⟨S2x32x32x512, .f32⟩
  | .hbm, ⟨26, _⟩ => ⟨S2x32x32x512, .f32⟩
  | .hbm, ⟨27, _⟩ => ⟨S2x32x32x512, .f32⟩
  | .hbm, ⟨28, _⟩ => ⟨S1x1x512x512, .f32⟩
  | .hbm, ⟨29, _⟩ => ⟨S512x512, .f32⟩
  | .hbm, ⟨30, _⟩ => ⟨S2x32x32x512, .f32⟩
  | .hbm, ⟨31, _⟩ => ⟨S2x32x32x512, .f32⟩
  | .hbm, ⟨32, _⟩ => ⟨S2x32x32x512, .f32⟩
  | .hbm, ⟨33, _⟩ => ⟨S1x1x512x512, .f32⟩
  | .hbm, ⟨34, _⟩ => ⟨S512x512, .f32⟩
  | .hbm, ⟨35, _⟩ => ⟨S2x32x32x512, .f32⟩
  | .hbm, ⟨36, _⟩ => ⟨S2x32x32x512, .f32⟩
  | .hbm, ⟨37, _⟩ => ⟨S2x32x32x512, .f32⟩
  | .hbm, ⟨38, _⟩ => ⟨S1x1x512x512, .f32⟩
  | .hbm, ⟨39, _⟩ => ⟨S512x512, .f32⟩
  | .hbm, ⟨40, _⟩ => ⟨S2x32x32x512, .f32⟩
  | .hbm, ⟨41, _⟩ => ⟨S2x32x32x512, .f32⟩
  | .hbm, ⟨42, _⟩ => ⟨S2x32x32x512, .f32⟩
  | .hbm, ⟨43, _⟩ => ⟨S1x1x512x512, .f32⟩
  | .hbm, ⟨44, _⟩ => ⟨S512x512, .f32⟩
  | .hbm, ⟨45, _⟩ => ⟨S2x32x32x512, .f32⟩
  | .hbm, ⟨46, _⟩ => ⟨S2x32x32x512, .f32⟩
  | .hbm, ⟨47, _⟩ => ⟨S2x32x32x512, .f32⟩
  | .hbm, ⟨48, _⟩ => ⟨S1x1x512x512, .f32⟩
  | .hbm, ⟨49, _⟩ => ⟨S512x512, .f32⟩
  | .hbm, ⟨50, _⟩ => ⟨S2x32x32x512, .f32⟩
  | .hbm, ⟨51, _⟩ => ⟨S2x32x32x512, .f32⟩
  | .hbm, ⟨52, _⟩ => ⟨S2x32x32x512, .f32⟩
  | .hbm, ⟨53, _⟩ => ⟨S1x1x512x512, .f32⟩
  | .hbm, ⟨54, _⟩ => ⟨S512x512, .f32⟩
  | .hbm, ⟨55, _⟩ => ⟨S2x32x32x512, .f32⟩
  | .hbm, ⟨56, _⟩ => ⟨S2x32x32x512, .f32⟩
  | .hbm, ⟨57, _⟩ => ⟨S1x1x1x512, .f32⟩
  | .hbm, ⟨58, _⟩ => ⟨S2x32x32x512, .f32⟩
  | .hbm, ⟨59, _⟩ => ⟨S2x32x32x512, .f32⟩
  | .hbm, ⟨60, _⟩ => ⟨S_, .f32⟩
  | .hbm, ⟨61, _⟩ => ⟨S2x32x32x512, .f32⟩
  | .hbm, ⟨62, _⟩ => ⟨S2x32x32x512, .f32⟩
  | .hbm, ⟨63, _⟩ => ⟨S512x18, .f32⟩
  | .hbm, ⟨64, _⟩ => ⟨S2x32x32x18, .f32⟩
  | .hbm, ⟨65, _⟩ => ⟨S1x1x1x18, .f32⟩
  | .hbm, ⟨66, _⟩ => ⟨S2x32x32x18, .f32⟩
  | .hbm, ⟨67, _⟩ => ⟨S2x32x32x18, .f32⟩
  | .hbm, ⟨68, _⟩ => ⟨S2x9216x2, .f32⟩
  | .hbm, ⟨69, _⟩ => ⟨S_, .f32⟩
  | .hbm, ⟨70, _⟩ => ⟨S2x9216, .f32⟩
  | .hbm, ⟨71, _⟩ => ⟨S_, .f32⟩
  | .hbm, ⟨72, _⟩ => ⟨S2x9216, .f32⟩
  | .hbm, ⟨73, _⟩ => ⟨S2x9216, .f32⟩
  | .hbm, ⟨74, _⟩ => ⟨S2x9216x1, .f32⟩
  | .hbm, ⟨75, _⟩ => ⟨S2x9216x2, .f32⟩
  | .hbm, ⟨76, _⟩ => ⟨S2x9216x2, .f32⟩
  | .hbm, ⟨77, _⟩ => ⟨S2x9216x2, .f32⟩
  | .hbm, ⟨78, _⟩ => ⟨S_, .f32⟩
  | .hbm, ⟨79, _⟩ => ⟨S2x9216, .f32⟩
  | .hbm, ⟨80, _⟩ => ⟨S2x9216x1, .f32⟩
  | .hbm, ⟨81, _⟩ => ⟨S2x9216x2, .f32⟩
  | .hbm, ⟨82, _⟩ => ⟨S2x9216x2, .f32⟩
  | .hbm, ⟨83, _⟩ => ⟨S512x36, .f32⟩
  | .hbm, ⟨84, _⟩ => ⟨S2x32x32x36, .f32⟩
  | .hbm, ⟨85, _⟩ => ⟨S1x1x1x36, .f32⟩
  | .hbm, ⟨86, _⟩ => ⟨S2x32x32x36, .f32⟩
  | .hbm, ⟨87, _⟩ => ⟨S2x32x32x36, .f32⟩
  | .hbm, ⟨88, _⟩ => ⟨S2x9216x4, .f32⟩
  | _, _ => ⟨S2x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_call1_cst : Ref sig .tc := ⟨.hbm, 60, rfl⟩
abbrev main_call1_v0 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_0 : Ref sig .tc := ⟨.hbm, 69, rfl⟩
abbrev main_v57 : Ref sig .tc := ⟨.hbm, 70, rfl⟩
abbrev main_cst_1 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_2 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Proof.Spec.lean ====
/-
  The mathematics both programs are shown to compute, written over plain functions of plain indices: the zero-padded image,
  the 3x3 convolution with bias and rectifier, the two 1x1 heads.
-/
module

public import Idealize.ShloMosaic.Lib.Pointwise

@[expose] public section
noncomputable section
namespace Cert.Spec

/-- The image with a border of zeros, counted from one: position `(p, q)` is the pixel `(p - 1, q - 1)` when there is one. -/
def pixel (X : Fin 2 → Fin 32 → Fin 32 → Fin 512 → EReal) (n : Fin 2) (p q : ℕ) (k : Fin 512) : EReal :=
  if h : (1 ≤ p ∧ p - 1 < 32) ∧ 1 ≤ q ∧ q - 1 < 32 then X n ⟨p - 1, h.1.2⟩ ⟨q - 1, h.2.2⟩ k else 0

/-- One tap of the convolution at output pixel `(y, x)` and output channel `o`: the sum over the input channels. -/
def tap (X : Fin 2 → Fin 32 → Fin 32 → Fin 512 → EReal) (W : Fin 3 → Fin 3 → Fin 512 → Fin 512 → EReal)
    (n : Fin 2) (y x : ℕ) (o : Fin 512) (dy dx : Fin 3) : EReal :=
  ∑ k, pixel X n (dy.val + y) (dx.val + x) k * W dy dx k o

/-- The shared convolution after its bias and rectifier. -/
def shared (X : Fin 2 → Fin 32 → Fin 32 → Fin 512 → EReal) (W : Fin 3 → Fin 3 → Fin 512 → Fin 512 → EReal)
    (b : Fin 512 → EReal) (n : Fin 2) (y x : ℕ) (o : Fin 512) : EReal :=
  max (tap X W n y x o 0 0 + tap X W n y x o 0 1 + tap X W n y x o 0 2
    + tap X W n y x o 1 0 + tap X W n y x o 1 1 + tap X W n y x o 1 2
    + tap X W n y x o 2 0 + tap X W n y x o 2 1 + tap X W n y x o 2 2 + b o) 0

/-- One output channel of a 1x1 convolution at one pixel. -/
def head (s w : Fin 512 → EReal) (b : EReal) : EReal := ∑ k, s k * w k + b

/-- Heads of equal features, weights and bias are equal. -/
theorem head_congr {s s' w w' : Fin 512 → EReal} {b b' : EReal} (hs : ∀ k, s k = s' k) (hw : ∀ k, w k = w' k) (hb : b = b') :
    head s w b = head s' w' b' := by
  rw [funext hs, funext hw, hb]

/-- The class logit of class `i` of anchor `k`: nine anchors to a pixel, two classes to an anchor. -/
def logit (X : Fin 2 → Fin 32 → Fin 32 → Fin 512 → EReal) (W : Fin 3 → Fin 3 → Fin 512 → Fin 512 → EReal) (b : Fin 512 → EReal)
    (w : Fin 512 → Fin 18 → EReal) (bc : Fin 18 → EReal) (n : Fin 2) (k : Fin 9216) (i : Fin 2) : EReal :=
  head (shared X W b n (k.val / 288) (k.val / 9 % 32)) (fun o => w o ⟨k.val % 9 * 2 + i.val, by omega⟩) (bc ⟨k.val % 9 * 2 + i.val, by omega⟩)

/-- The box offset `i` of anchor `k`: nine anchors to a pixel, four offsets to an anchor. -/
def offset (X : Fin 2 → Fin 32 → Fin 32 → Fin 512 → EReal) (W : Fin 3 → Fin 3 → Fin 512 → Fin 512 → EReal) (b : Fin 512 → EReal)
    (w : Fin 512 → Fin 36 → EReal) (bd : Fin 36 → EReal) (n : Fin 2) (k : Fin 9216) (i : Fin 4) : EReal :=
  head (shared X W b n (k.val / 288) (k.val / 9 % 32)) (fun o => w o ⟨k.val % 9 * 4 + i.val, by omega⟩) (bd ⟨k.val % 9 * 4 + i.val, by omega⟩)

end Cert.Spec
-- ==== Proof.KernelEntry.lean ====
/-
  The arrays the kernel's region starts from, at an index: what the host operations before it make of the arguments.
-/
module

public import proofs.«01_k».proof.Proof.Gen.KernelIdeal.Frame
public import proofs.«01_k».proof.Proof.Spec
public import Idealize.ShloMosaic.Lib.Pointwise
public import Idealize.ShloMosaic.Lib.Claim

@[expose] public section
noncomputable section
namespace Cert.KernelIdeal.Entry
open Cert.KernelIdeal Cert.KernelIdeal.Gen Idealize.ShloMosaic Idealize.ShloMosaic.TcCoe Idealize.SL.Sem

variable (m : (ℓ : Loc nD τ sig) → Buf (Elt Ideal) ℓ)

/-- The padded images, before they are flattened. -/
def paddedTerm (X : FVec Ideal S2x32x32x512 .f32) : FVec Ideal S2x36x34x512 .f32 :=
  pad S2x36x34x512 ![0, 2, 1, 0] ![0, 2, 1, 0] ![0, 0, 0, 0] X (sitofp .f32 (constantI S_ 32 0#32)) pads_S2x32x32x512_S2x36x34x512_000_220_110_000 h_S_

/-- The flattened padded images. -/
theorem V_v1 (c : Dev nD) : V m c main_call0_v1 =
    shapeCast S2x1224x512 (paddedTerm (m ((c : Thread nD τ).loc main_arg0))) shapeCasts_S2x36x34x512_S2x1224x512 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The flattened weights of the shared convolution. -/
theorem V_v2 (c : Dev nD) : V m c main_call0_v2 =
    shapeCast S9x512x512 (m ((c : Thread nD τ).loc main_arg1)) shapeCasts_S3x3x512x512_S9x512x512 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The flattened weights of the class head. -/
theorem V_v3 (c : Dev nD) : V m c main_call0_v3 =
    shapeCast S512x18 (m ((c : Thread nD τ).loc main_arg3)) shapeCasts_S1x1x512x18_S512x18 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The flattened weights of the box head. -/
theorem V_v4 (c : Dev nD) : V m c main_call0_v4 =
    shapeCast S512x36 (m ((c : Thread nD τ).loc main_arg5)) shapeCasts_S1x1x512x36_S512x36 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The bias of the shared convolution as a row. -/
theorem V_v5 (c : Dev nD) : V m c main_call0_v5 =
    shapeCast S1x512 (m ((c : Thread nD τ).loc main_arg2)) shapeCasts_S512_S1x512 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The bias of the class head as a row. -/
theorem V_v6 (c : Dev nD) : V m c main_call0_v6 =
    shapeCast S1x18 (m ((c : Thread nD τ).loc main_arg4)) shapeCasts_S18_S1x18 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The bias of the box head as a row. -/
theorem V_v7 (c : Dev nD) : V m c main_call0_v7 =
    shapeCast S1x36 (m ((c : Thread nD τ).loc main_arg6)) shapeCasts_S36_S1x36 := by
  simp only [V, V0, hostOps0, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp <;> rfl

/-- The integer zero that pads, converted, is the real zero. -/
theorem sitofp_zero : (FloatOps.sitofp FTy.f32 0#32 : Ideal .f32) = (0 : EReal) := by
  show (((0#32 : BitVec 32).toInt : ℝ) : EReal) = 0
  simp

/-- The padded images at an index: two rows of zeros above and below, one column on each side. -/
theorem paddedTerm_apply (X : FVec Ideal S2x32x32x512 .f32) (n : Fin 2) (y : Fin 36) (x : Fin 34) (k : Fin 512) :
    paddedTerm X (ix4 n y x k) = Spec.pixel (fun a b c d => X (ix4 a b c d)) n (y.val - 1) x k := by
  pointwise [paddedTerm, Spec.pixel]
  rw [sitofp_zero]
  refine dite_congr (propext (by omega)) (fun h => ?_) (fun _ => rfl)
  congr 2

/-- The flattened padded images at an index, in terms of the padded images. -/
theorem flat_pad (P : FVec Ideal S2x36x34x512 .f32) (n : Fin 2) (r : Fin 1224) (k : Fin 512) :
    shapeCast S2x1224x512 P shapeCasts_S2x36x34x512_S2x1224x512 (ix3 n r k)
      = P (ix4 n ⟨r.val / 34, by omega⟩ ⟨r.val % 34, by omega⟩ k) := by
  pointwise []

/-- The flattened padded images at an index. -/
theorem V_v1_apply (c : Dev nD) (n : Fin 2) (r : Fin 1224) (k : Fin 512) : V m c main_call0_v1 (ix3 n r k) =
    Spec.pixel (fun a b c' d => m ((c : Thread nD τ).loc main_arg0) (ix4 a b c' d)) n (r.val / 34 - 1) (r.val % 34) k := by
  rw [V_v1, flat_pad, paddedTerm_apply]

/-- Nine slices of weights are three rows of three. -/
theorem flat_taps (W : FVec Ideal S3x3x512x512 .f32) (dy dx : Fin 3) (k o : Fin 512) :
    shapeCast S9x512x512 W shapeCasts_S3x3x512x512_S9x512x512 (ix3 ⟨3 * dy.val + dx.val, by omega⟩ k o) = W (ix4 dy dx k o) := by
  pointwise []

/-- The flattened weights of the shared convolution at an index. -/
theorem V_v2_apply (c : Dev nD) (dy dx : Fin 3) (k o : Fin 512) : V m c main_call0_v2 (ix3 ⟨3 * dy.val + dx.val, by omega⟩ k o) =
    m ((c : Thread nD τ).loc main_arg1) (ix4 dy dx k o) := by
  rw [V_v2, flat_taps]

/-- The two unit axes in front of the class head's weights drop. -/
theorem flat_cls (w : FVec Ideal S1x1x512x18 .f32) (k : Fin 512) (j : Fin 18) :
    shapeCast S512x18 w shapeCasts_S1x1x512x18_S512x18 (ix2 k j) = w (ix4 0 0 k j) := by
  pointwise []

/-- The flattened weights of the class head at an index. -/
theorem V_v3_apply (c : Dev nD) (k : Fin 512) (j : Fin 18) : V m c main_call0_v3 (ix2 k j) =
    m ((c : Thread nD τ).loc main_arg3) (ix4 0 0 k j) := by
  rw [V_v3, flat_cls]

/-- The two unit axes in front of the box head's weights drop. -/
theorem flat_box (w : FVec Ideal S1x1x512x36 .f32) (k : Fin 512) (j : Fin 36) :
    shapeCast S512x36 w shapeCasts_S1x1x512x36_S512x36 (ix2 k j) = w (ix4 0 0 k j) := by
  pointwise []

/-- The flattened weights of the box head at an index. -/
theorem V_v4_apply (c : Dev nD) (k : Fin 512) (j : Fin 36) : V m c main_call0_v4 (ix2 k j) =
    m ((c : Thread nD τ).loc main_arg5) (ix4 0 0 k j) := by
  rw [V_v4, flat_box]

/-- The shared bias as a row is the bias. -/
theorem flat_b (b : FVec Ideal S512 .f32) (k : Fin 512) : shapeCast S1x512 b shapeCasts_S512_S1x512 (ix2 0 k) = b (ix1 k) := by
  pointwise []

/-- The shared bias at an index. -/
theorem V_v5_apply (c : Dev nD) (k : Fin 512) : V m c main_call0_v5 (ix2 0 k) = m ((c : Thread nD τ).loc main_arg2) (ix1 k) := by
  rw [V_v5, flat_b]

/-- The class bias as a row is the bias. -/
theorem flat_bcls (b : FVec Ideal S18 .f32) (k : Fin 18) : shapeCast S1x18 b shapeCasts_S18_S1x18 (ix2 0 k) = b (ix1 k) := by
  pointwise []

/-- The class bias at an index. -/
theorem V_v6_apply (c : Dev nD) (k : Fin 18) : V m c main_call0_v6 (ix2 0 k) = m ((c : Thread nD τ).loc main_arg4) (ix1 k) := by
  rw [V_v6, flat_bcls]

/-- The box bias as a row is the bias. -/
theorem flat_bbox (b : FVec Ideal S36 .f32) (k : Fin 36) : shapeCast S1x36 b shapeCasts_S36_S1x36 (ix2 0 k) = b (ix1 k) := by
  pointwise []

/-- The box bias at an index. -/
theorem V_v7_apply (c : Dev nD) (k : Fin 36) : V m c main_call0_v7 (ix2 0 k) = m ((c : Thread nD τ).loc main_arg6) (ix1 k) := by
  rw [V_v7, flat_bbox]

end Cert.KernelIdeal.Entry
-- ==== Proof.KernelInput.lean ====
/-
  The blocks of the kernel's inputs at a grid point, as the arrays the region starts from.
-/
module

public import proofs.«01_k».proof.Proof.KernelEntry
public import Idealize.ShloMosaic.Lib.Pipeline.ValueKit
public import Idealize.ShloMosaic.Lib.Claim

@[expose] public section
noncomputable section
namespace Cert.KernelIdeal.Array
open Cert.KernelIdeal Cert.KernelIdeal.Gen Cert.KernelIdeal.Entry Idealize.ShloMosaic Idealize.ShloMosaic.TcCoe Idealize.SL.Sem
open Idealize.ShloMosaic.Pipeline (Dat)

variable (m : (ℓ : Loc nD τ sig) → Buf (Elt Ideal) ℓ)

/-- The block every window takes at every grid point. -/
theorem idx : ∀ t : Fin cfg0.N, win0_0.index t = ![t.val, 0, 0] ∧ win0_7.index t = ![t.val, 0, 0] ∧ win0_8.index t = ![t.val, 0, 0]
    ∧ win0_1.index t = ![0, 0, 0] ∧ win0_2.index t = ![0, 0] ∧ win0_3.index t = ![0, 0] ∧ win0_4.index t = ![0, 0]
    ∧ win0_5.index t = ![0, 0] ∧ win0_6.index t = ![0, 0] :=
  (by decide +kernel : ∀ t : Fin grid0.N, _)

/-- The image block at a grid point is that image. -/
theorem iblk0 (c : Dev nD) (t : Fin cfg0.N) (r : Fin 1224) (k : Fin 512) :
    iblk m c 0 t (ix3 0 r k) = V m c main_call0_v1 (ix3 t r k) := by
  blk_ext! [iblk, idx t]

/-- The block of shared weights is the whole array of them. -/
theorem iblk1 (c : Dev nD) (t : Fin cfg0.N) : iblk m c 1 t = V m c main_call0_v2 := by
  blk_ext! [iblk, idx t]

/-- The block of shared biases is the whole array of them. -/
theorem iblk2 (c : Dev nD) (t : Fin cfg0.N) : iblk m c 2 t = V m c main_call0_v5 := by
  blk_ext! [iblk, idx t]

/-- The block of class weights is the whole array of them. -/
theorem iblk3 (c : Dev nD) (t : Fin cfg0.N) : iblk m c 3 t = V m c main_call0_v3 := by
  blk_ext! [iblk, idx t]

/-- The block of class biases is the whole array of them. -/
theorem iblk4 (c : Dev nD) (t : Fin cfg0.N) : iblk m c 4 t = V m c main_call0_v6 := by
  blk_ext! [iblk, idx t]

/-- The block of box weights is the whole array of them. -/
theorem iblk5 (c : Dev nD) (t : Fin cfg0.N) : iblk m c 5 t = V m c main_call0_v4 := by
  blk_ext! [iblk, idx t]

/-- The block of box biases is the whole array of them. -/
theorem iblk6 (c : Dev nD) (t : Fin cfg0.N) : iblk m c 6 t = V m c main_call0_v7 := by
  blk_ext! [iblk, idx t]

end Cert.KernelIdeal.Array
-- ==== Proof.KernelBlock.lean ====
/-
  What the kernel's body leaves in its two output blocks, at an index, from the blocks of its inputs.
-/
module

public import proofs.«01_k».proof.Proof.Gen.KernelIdeal.Frame
public import proofs.«01_k».proof.Proof.Spec
public import Idealize.ShloMosaic.Lib.Pointwise
public import Idealize.ShloMosaic.Lib.Pipeline.ValueKit

@[expose] public section
noncomputable section
namespace Cert.KernelIdeal.Block
open Cert.KernelIdeal Cert.KernelIdeal.Gen Idealize.ShloMosaic Idealize.ShloMosaic.TcCoe Idealize.SL.Sem

/-- One tap of the body at row `r`: the flattened image read `start` rows further on, contracted with weight slice `q`. -/
def blockTap (x0 : Vec Ideal S1x1224x512 .f32) (x1 : Vec Ideal S9x512x512 .f32) (r : Fin 1088) (o : Fin 512)
    (start : ℕ) (hs : start ≤ 136) (q : Fin 9) : EReal :=
  ∑ k : Fin 512, x0 (ix3 0 ⟨start + r.val, by omega⟩ k) * x1 (ix3 q k o)

/-- The shared convolution of the body at row `r` and channel `o`. -/
def blockShared (x0 : Vec Ideal S1x1224x512 .f32) (x1 : Vec Ideal S9x512x512 .f32) (x2 : Vec Ideal S1x512 .f32)
    (r : Fin 1088) (o : Fin 512) : EReal :=
  max (blockTap x0 x1 r o 33 (by omega) 0 + blockTap x0 x1 r o 34 (by omega) 1 + blockTap x0 x1 r o 35 (by omega) 2
    + blockTap x0 x1 r o 67 (by omega) 3 + blockTap x0 x1 r o 68 (by omega) 4 + blockTap x0 x1 r o 69 (by omega) 5
    + blockTap x0 x1 r o 101 (by omega) 6 + blockTap x0 x1 r o 102 (by omega) 7 + blockTap x0 x1 r o 103 (by omega) 8
    + x2 (ix2 0 o)) 0

/-- Loading one weight slice reads that slice. -/
theorem ld_slice (x1 : Vec Ideal S9x512x512 .f32) (k o : Fin 512) :
    View.ld x1 r0_1 (ix3 0 k o) = x1 (ix3 0 k o) ∧ View.ld x1 r0_2 (ix3 0 k o) = x1 (ix3 1 k o)
    ∧ View.ld x1 r0_3 (ix3 0 k o) = x1 (ix3 2 k o) ∧ View.ld x1 r0_4 (ix3 0 k o) = x1 (ix3 3 k o)
    ∧ View.ld x1 r0_5 (ix3 0 k o) = x1 (ix3 4 k o) ∧ View.ld x1 r0_6 (ix3 0 k o) = x1 (ix3 5 k o)
    ∧ View.ld x1 r0_7 (ix3 0 k o) = x1 (ix3 6 k o) ∧ View.ld x1 r0_8 (ix3 0 k o) = x1 (ix3 7 k o)
    ∧ View.ld x1 r0_9 (ix3 0 k o) = x1 (ix3 8 k o) := by
  refine ⟨?_, ?_, ?_, ?_, ?_, ?_, ?_, ?_, ?_⟩ <;> (pointwise [View.ld_unit])

/-- The first five taps. -/
theorem pay4_apply (v0 : Vec Ideal S1x1224x512 .f32) (v4 v9 v14 v19 v24 : Vec Ideal S1x512x512 .f32) (r : Fin 1088) (o : Fin 512) :
    k0_pay4 (F := Ideal) v0 v4 v9 v14 v19 v24 (ix2 r o)
      = ∑ k : Fin 512, v0 (ix3 0 ⟨33 + r.val, by omega⟩ k) * v4 (ix3 0 k o) + ∑ k : Fin 512, v0 (ix3 0 ⟨34 + r.val, by omega⟩ k) * v9 (ix3 0 k o)
        + ∑ k : Fin 512, v0 (ix3 0 ⟨35 + r.val, by omega⟩ k) * v14 (ix3 0 k o) + ∑ k : Fin 512, v0 (ix3 0 ⟨67 + r.val, by omega⟩ k) * v19 (ix3 0 k o)
        + ∑ k : Fin 512, v0 (ix3 0 ⟨68 + r.val, by omega⟩ k) * v24 (ix3 0 k o) := by
  pointwise [k0_pay4, k0_pay3]

/-- The shared convolution from the first five taps. -/
theorem pay7_apply (v0 : Vec Ideal S1x1224x512 .f32) (v27 : FVec Ideal S1088x512 .f32) (v29 v34 v39 v44 : Vec Ideal S1x512x512 .f32)
    (v48 : Vec Ideal S1x512 .f32) (r : Fin 1088) (o : Fin 512) :
    k0_pay7 (F := Ideal) (k0_pay3 v0) v27 (k0_pay5 v0) (k0_pay6 v29) (constant S1088x512 .f32 0x00000000#32) v34 v39 v44 v48 (ix2 r o)
      = max (v27 (ix2 r o)
        + ∑ k : Fin 512, v0 (ix3 0 ⟨69 + r.val, by omega⟩ k) * v29 (ix3 0 k o) + ∑ k : Fin 512, v0 (ix3 0 ⟨101 + r.val, by omega⟩ k) * v34 (ix3 0 k o)
        + ∑ k : Fin 512, v0 (ix3 0 ⟨102 + r.val, by omega⟩ k) * v39 (ix3 0 k o) + ∑ k : Fin 512, v0 (ix3 0 ⟨103 + r.val, by omega⟩ k) * v44 (ix3 0 k o)
        + v48 (ix2 0 o)) 0 := by
  pointwise [k0_pay7, k0_pay3, k0_pay5, k0_pay6]

/-- The class logits from the shared convolution. -/
theorem pay8_apply (v1 : FVec Ideal S1224x512 .f32) (v27 v28 : FVec Ideal S1088x512 .f32) (v30 : FVec Ideal S512x512 .f32) (cst : FVec Ideal S1088x512 .f32)
    (v34 v39 v44 : Vec Ideal S1x512x512 .f32) (v48 : Vec Ideal S1x512 .f32) (v55 : Vec Ideal S512x18 .f32) (v58 : Vec Ideal S1x18 .f32)
    (r : Fin 1088) (j : Fin 18) :
    k0_pay8 (F := Ideal) v1 v27 v28 v30 cst v34 v39 v44 v48 v55 v58 (ix2 r j)
      = Spec.head (fun k => k0_pay7 v1 v27 v28 v30 cst v34 v39 v44 v48 (ix2 r k)) (fun k => v55 (ix2 k j)) (v58 (ix2 0 j)) := by
  pointwise [k0_pay8, Spec.head]

/-- The box offsets from the shared convolution. -/
theorem pay1_apply (v1 : FVec Ideal S1224x512 .f32) (v27 v28 : FVec Ideal S1088x512 .f32) (v30 : FVec Ideal S512x512 .f32) (cst : FVec Ideal S1088x512 .f32)
    (v34 v39 v44 : Vec Ideal S1x512x512 .f32) (v48 : Vec Ideal S1x512 .f32) (v63 : Vec Ideal S512x36 .f32) (v66 : Vec Ideal S1x36 .f32)
    (r : Fin 1088) (j : Fin 36) :
    k0_pay1 (F := Ideal) (k0_pay9 v1 v27 v28 v30 cst v34 v39 v44 v48 v63) v66 (ix3 0 r j)
      = Spec.head (fun k => k0_pay7 v1 v27 v28 v30 cst v34 v39 v44 v48 (ix2 r k)) (fun k => v63 (ix2 k j)) (v66 (ix2 0 j)) := by
  pointwise [k0_pay1, k0_pay9, Spec.head]

/-- The entry of the first selection matrix: one where the channel is the even one of the pair, else zero. -/
theorem even_apply (j : Fin 18) (a : Fin 9) :
    (FloatOps.sitofp .f32 (BitVec.setWidth 32 (IntOp.cmpi .eq (BitVec.ofNat 32 j.val) (IntOp.muli 2#32 (BitVec.ofNat 32 a.val)))) : Ideal .f32)
      = if j = ⟨a.val * 2, by omega⟩ then (1 : EReal) else 0 := by
  have h : BitVec.setWidth 32 (IntOp.cmpi .eq (BitVec.ofNat 32 j.val) (IntOp.muli 2#32 (BitVec.ofNat 32 a.val)))
      = if j = ⟨a.val * 2, by omega⟩ then 1#32 else 0#32 := by
    revert j a; decide
  rw [h]
  split
  · show (((1#32 : BitVec 32).toInt : ℝ) : EReal) = 1
    simp
  · show (((0#32 : BitVec 32).toInt : ℝ) : EReal) = 0
    simp

/-- The entry of the second selection matrix: one where the channel is the odd one of the pair, else zero. -/
theorem odd_apply (j : Fin 18) (a : Fin 9) :
    (FloatOps.sitofp .f32 (BitVec.setWidth 32 (IntOp.cmpi .eq (BitVec.ofNat 32 j.val) (IntOp.addi (IntOp.muli 2#32 (BitVec.ofNat 32 a.val)) 1#32))) : Ideal .f32)
      = if j = ⟨a.val * 2 + 1, by omega⟩ then (1 : EReal) else 0 := by
  have h : BitVec.setWidth 32 (IntOp.cmpi .eq (BitVec.ofNat 32 j.val) (IntOp.addi (IntOp.muli 2#32 (BitVec.ofNat 32 a.val)) 1#32))
      = if j = ⟨a.val * 2 + 1, by omega⟩ then 1#32 else 0#32 := by
    revert j a; decide
  rw [h]
  split
  · show (((1#32 : BitVec 32).toInt : ℝ) : EReal) = 1
    simp
  · show (((0#32 : BitVec 32).toInt : ℝ) : EReal) = 0
    simp

/-- The class probabilities from the logits, the selection matrices as conditions. -/
theorem pay2_apply (v : FVec Ideal S1088x18 .f32) (r : Fin 1088) (j : Fin 18) :
    k0_pay2 (F := Ideal) v (ix3 0 r j)
      = ∑ a : Fin 9, Ideal.logistic (v (ix2 r ⟨a.val * 2, by omega⟩) - v (ix2 r ⟨a.val * 2 + 1, by omega⟩)) * (if j = ⟨a.val * 2, by omega⟩ then 1 else 0)
        + ∑ a : Fin 9, Ideal.logistic (v (ix2 r ⟨a.val * 2 + 1, by omega⟩) - v (ix2 r ⟨a.val * 2, by omega⟩)) * (if j = ⟨a.val * 2 + 1, by omega⟩ then 1 else 0) := by
  pointwise [k0_pay2]
  simp only [even_apply, odd_apply, mul_ite, mul_one, mul_zero, Finset.sum_ite_eq', Finset.mem_univ, if_true]

/-- At the even channel of a pair, the logistic function of the even logit less the odd one. -/
theorem pay2_even (v : FVec Ideal S1088x18 .f32) (r : Fin 1088) (a : Fin 9) :
    k0_pay2 (F := Ideal) v (ix3 0 r ⟨a.val * 2, by omega⟩)
      = Ideal.logistic (v (ix2 r ⟨a.val * 2, by omega⟩) - v (ix2 r ⟨a.val * 2 + 1, by omega⟩)) := by
  rw [pay2_apply]
  have h1 : ∀ x : Fin 9, (a.val * 2 = x.val * 2) ↔ a = x := fun x => by rw [Fin.ext_iff]; omega
  have h2 : ∀ x : Fin 9, ¬ (a.val * 2 = x.val * 2 + 1) := fun x => by omega
  simp only [Fin.mk.injEq, h1, h2, if_false, mul_ite, mul_one, mul_zero, Finset.sum_ite_eq, Finset.mem_univ, if_true, Finset.sum_const_zero, add_zero]

/-- At the odd channel of a pair, the logistic function of the odd logit less the even one. -/
theorem pay2_odd (v : FVec Ideal S1088x18 .f32) (r : Fin 1088) (a : Fin 9) :
    k0_pay2 (F := Ideal) v (ix3 0 r ⟨a.val * 2 + 1, by omega⟩)
      = Ideal.logistic (v (ix2 r ⟨a.val * 2 + 1, by omega⟩) - v (ix2 r ⟨a.val * 2, by omega⟩)) := by
  rw [pay2_apply]
  have h1 : ∀ x : Fin 9, (a.val * 2 + 1 = x.val * 2 + 1) ↔ a = x := fun x => by rw [Fin.ext_iff]; omega
  have h2 : ∀ x : Fin 9, ¬ (a.val * 2 + 1 = x.val * 2) := fun x => by omega
  simp only [Fin.mk.injEq, h1, h2, if_false, mul_ite, mul_one, mul_zero, Finset.sum_ite_eq, Finset.mem_univ, if_true, Finset.sum_const_zero, zero_add]

/-- The body's shared convolution, spelt with the loads of the body, at an index. -/
theorem shared_apply (x0 : Vec Ideal S1x1224x512 .f32) (x1 : Vec Ideal S9x512x512 .f32) (x2 : Vec Ideal S1x512 .f32) (r : Fin 1088) (o : Fin 512) :
    k0_pay7 (F := Ideal) (k0_pay3 x0)
        (k0_pay4 x0 (View.ld x1 r0_1) (View.ld x1 r0_2) (View.ld x1 r0_3) (View.ld x1 r0_4) (View.ld x1 r0_5))
        (k0_pay5 x0) (k0_pay6 (View.ld x1 r0_6)) (constant S1088x512 .f32 0x00000000#32)
        (View.ld x1 r0_7) (View.ld x1 r0_8) (View.ld x1 r0_9) x2 (ix2 r o)
      = blockShared x0 x1 x2 r o := by
  rw [pay7_apply, pay4_apply]
  unfold blockShared blockTap
  simp only [(ld_slice x1 _ _).1, (ld_slice x1 _ _).2.1, (ld_slice x1 _ _).2.2.1, (ld_slice x1 _ _).2.2.2.1, (ld_slice x1 _ _).2.2.2.2.1,
    (ld_slice x1 _ _).2.2.2.2.2.1, (ld_slice x1 _ _).2.2.2.2.2.2.1, (ld_slice x1 _ _).2.2.2.2.2.2.2.1, (ld_slice x1 _ _).2.2.2.2.2.2.2.2]

/-- The body's shared convolution, spelt with the body's own named values, at an index. -/
theorem shared_named (x0 : Vec Ideal S1x1224x512 .f32) (x1 : Vec Ideal S9x512x512 .f32) (x2 : Vec Ideal S1x512 .f32) (x3 : Vec Ideal S512x18 .f32)
    (x4 : Vec Ideal S1x18 .f32) (x5 : Vec Ideal S512x36 .f32) (x6 : Vec Ideal S1x36 .f32) (r : Fin 1088) (o : Fin 512) :
    k0_pay7 (k0_pay11 x0 x1 x2 x3 x4 x5 x6) (k0_pay12 x0 x1 x2 x3 x4 x5 x6) (k0_pay13 x0 x1 x2 x3 x4 x5 x6)
        (k0_pay14 x0 x1 x2 x3 x4 x5 x6) (k0_pay10 x0 x1 x2 x3 x4 x5 x6) (View.ld x1 r0_7) (View.ld x1 r0_8) (View.ld x1 r0_9) x2 (ix2 r o)
      = blockShared x0 x1 x2 r o := by
  have h : View.ld x0 r0_0 = x0 := View.ld_unit_lit _ _ (by decide)
  unfold k0_pay10 k0_pay11 k0_pay12 k0_pay13 k0_pay14
  rw [h]
  exact shared_apply x0 x1 x2 r o

/-- A class logit of the body. -/
def blockLogit (x0 : Vec Ideal S1x1224x512 .f32) (x1 : Vec Ideal S9x512x512 .f32) (x2 : Vec Ideal S1x512 .f32) (x3 : Vec Ideal S512x18 .f32)
    (x4 : Vec Ideal S1x18 .f32) (r : Fin 1088) (j : Fin 18) : EReal :=
  Spec.head (fun k => blockShared x0 x1 x2 r k) (fun k => x3 (ix2 k j)) (x4 (ix2 0 j))

/-- The block of class probabilities, even channels. -/
theorem out7_even (x0 : Vec Ideal S1x1224x512 .f32) (x1 : Vec Ideal S9x512x512 .f32) (x2 : Vec Ideal S1x512 .f32) (x3 : Vec Ideal S512x18 .f32)
    (x4 : Vec Ideal S1x18 .f32) (x5 : Vec Ideal S512x36 .f32) (x6 : Vec Ideal S1x36 .f32) (r : Fin 1088) (a : Fin 9) :
    out0_7 x0 x1 x2 x3 x4 x5 x6 (ix3 0 r ⟨a.val * 2, by omega⟩)
      = Ideal.logistic (blockLogit x0 x1 x2 x3 x4 r ⟨a.val * 2, by omega⟩ - blockLogit x0 x1 x2 x3 x4 r ⟨a.val * 2 + 1, by omega⟩) := by
  frame_out
  rw [pay2_even, pay8_apply, pay8_apply]
  simp only [shared_named]
  rfl

/-- The block of class probabilities, odd channels. -/
theorem out7_odd (x0 : Vec Ideal S1x1224x512 .f32) (x1 : Vec Ideal S9x512x512 .f32) (x2 : Vec Ideal S1x512 .f32) (x3 : Vec Ideal S512x18 .f32)
    (x4 : Vec Ideal S1x18 .f32) (x5 : Vec Ideal S512x36 .f32) (x6 : Vec Ideal S1x36 .f32) (r : Fin 1088) (a : Fin 9) :
    out0_7 x0 x1 x2 x3 x4 x5 x6 (ix3 0 r ⟨a.val * 2 + 1, by omega⟩)
      = Ideal.logistic (blockLogit x0 x1 x2 x3 x4 r ⟨a.val * 2 + 1, by omega⟩ - blockLogit x0 x1 x2 x3 x4 r ⟨a.val * 2, by omega⟩) := by
  frame_out
  rw [pay2_odd, pay8_apply, pay8_apply]
  simp only [shared_named]
  rfl

/-- The block of box offsets. -/
theorem out8_apply (x0 : Vec Ideal S1x1224x512 .f32) (x1 : Vec Ideal S9x512x512 .f32) (x2 : Vec Ideal S1x512 .f32) (x3 : Vec Ideal S512x18 .f32)
    (x4 : Vec Ideal S1x18 .f32) (x5 : Vec Ideal S512x36 .f32) (x6 : Vec Ideal S1x36 .f32) (r : Fin 1088) (j : Fin 36) :
    out0_8 x0 x1 x2 x3 x4 x5 x6 (ix3 0 r j)
      = Spec.head (fun k => blockShared x0 x1 x2 r k) (fun k => x5 (ix2 k j)) (x6 (ix2 0 j)) := by
  frame_out
  rw [pay1_apply]
  simp only [shared_named]

end Cert.KernelIdeal.Block
-- ==== Proof.KernelArray.lean ====
/-
  The kernel's two result arrays after its run, at an index, from the argument arrays.
-/
module

public import proofs.«01_k».proof.Proof.KernelInput
public import proofs.«01_k».proof.Proof.KernelBlock
public import Idealize.ShloMosaic.Lib.Pipeline.ValueKit
public import Idealize.ShloMosaic.Lib.Claim

@[expose] public section
noncomputable section
namespace Cert.KernelIdeal.Array
open Cert.KernelIdeal Cert.KernelIdeal.Gen Cert.KernelIdeal.Entry Cert.KernelIdeal.Block Idealize.ShloMosaic Idealize.ShloMosaic.TcCoe Idealize.SL.Sem
open Idealize.ShloMosaic.Pipeline (Dat)

variable (m : (ℓ : Loc nD τ sig) → Buf (Elt Ideal) ℓ)

/-- The array of class probabilities after the run, over any contents that every block agrees with. -/
theorem arr7 (c : Dev nD) (G : Vec Ideal S2x1088x18 .f32)
    (hG : ∀ (t : Fin cfg0.N) (r : Fin 1088) (j : Fin 18),
      out0_7 (iblk m c 0 t) (iblk m c 1 t) (iblk m c 2 t) (iblk m c 3 t) (iblk m c 4 t) (iblk m c 5 t) (iblk m c 6 t) (ix3 0 r j) = G (ix3 t r j)) :
    (dats m 0 c).arrAt 7 cfg0.N = G := by
  refine (dats m 0 c).arrAt_eq_of_covers 7 _ (by decide +kernel) fun t hf y => ?_
  blk_simp
  rw [after0_7]
  have hy : y = ix3 0 (y 1) (y 2) := by
    funext a
    match a with
    | ⟨0, _⟩ => exact Fin.ext (by have := (y 0).isLt; simp at this ⊢)
    | ⟨1, _⟩ => rfl
    | ⟨2, _⟩ => rfl
  refine ((congrArg (out0_7 _ _ _ _ _ _ _) hy).trans (hG t (y 1) (y 2))).trans ?_
  blk_ext! [idx t]

/-- The array of box offsets after the run, over any contents that every block agrees with. -/
theorem arr8 (c : Dev nD) (G : Vec Ideal S2x1088x36 .f32)
    (hG : ∀ (t : Fin cfg0.N) (r : Fin 1088) (j : Fin 36),
      out0_8 (iblk m c 0 t) (iblk m c 1 t) (iblk m c 2 t) (iblk m c 3 t) (iblk m c 4 t) (iblk m c 5 t) (iblk m c 6 t) (ix3 0 r j) = G (ix3 t r j)) :
    (dats m 0 c).arrAt 8 cfg0.N = G := by
  refine (dats m 0 c).arrAt_eq_of_covers 8 _ (by decide +kernel) fun t hf y => ?_
  blk_simp
  rw [after0_8]
  have hy : y = ix3 0 (y 1) (y 2) := by
    funext a
    match a with
    | ⟨0, _⟩ => exact Fin.ext (by have := (y 0).isLt; simp at this ⊢)
    | ⟨1, _⟩ => rfl
    | ⟨2, _⟩ => rfl
  refine ((congrArg (out0_8 _ _ _ _ _ _ _) hy).trans (hG t (y 1) (y 2))).trans ?_
  blk_ext! [idx t]

/-- The first result from the array of class probabilities: the border columns dropped, one row per anchor. -/
def tail0 (A : FVec Ideal S2x1088x18 .f32) : FVec Ideal S2x9216x2 .f32 :=
  shapeCast S2x9216x2 (extractStridedSlice S2x32x32x9x2 ![0, 0, 1, 0, 0] (shapeCast S2x32x34x9x2 A shapeCasts_S2x1088x18_S2x32x34x9x2)
    slices_S2x32x34x9x2_S2x32x32x9x2_0_0_1_0_0) shapeCasts_S2x32x32x9x2_S2x9216x2

/-- The second result from the array of box offsets: the border columns dropped, one row per anchor. -/
def tail1 (A : FVec Ideal S2x1088x36 .f32) : FVec Ideal S2x9216x4 .f32 :=
  shapeCast S2x9216x4 (extractStridedSlice S2x32x32x9x4 ![0, 0, 1, 0, 0] (shapeCast S2x32x34x9x4 A shapeCasts_S2x1088x36_S2x32x34x9x4)
    slices_S2x32x34x9x4_S2x32x32x9x4_0_0_1_0_0) shapeCasts_S2x32x32x9x4_S2x9216x4

/-- The first result at an index. -/
theorem tail0_apply (A : FVec Ideal S2x1088x18 .f32) (n : Fin 2) (k : Fin 9216) (i : Fin 2) :
    tail0 A (ix3 n k i) = A (ix3 n ⟨k.val / 288 * 34 + (k.val / 9 % 32 + 1), by omega⟩ ⟨k.val % 9 * 2 + i.val, by omega⟩) := by
  pointwise [tail0]
  simp only [Nat.add_comm 1]

/-- The second result at an index. -/
theorem tail1_apply (A : FVec Ideal S2x1088x36 .f32) (n : Fin 2) (k : Fin 9216) (i : Fin 4) :
    tail1 A (ix3 n k i) = A (ix3 n ⟨k.val / 288 * 34 + (k.val / 9 % 32 + 1), by omega⟩ ⟨k.val % 9 * 4 + i.val, by omega⟩) := by
  pointwise [tail1]
  simp only [Nat.add_comm 1]

/-- The array of class probabilities as the host operations after the region find it. -/
theorem exit7 (c : Dev nD) :
    Pipeline.withArrays (cfgs 0).spec c (V0 m c) (fun w => (dats m 0 c).arrAt w (cfgs 0).N) (Proc.tc.devRef main_call0_v8_0)
      = (dats m 0 c).arrAt 7 cfg0.N :=
  Pipeline.withArrays_arr (cfgs 0).spec (by decide) c (V0 m c) (fun w => (dats m 0 c).arrAt w (cfgs 0).N) 7

/-- The array of box offsets as the host operations after the region find it. -/
theorem exit8 (c : Dev nD) :
    Pipeline.withArrays (cfgs 0).spec c (V0 m c) (fun w => (dats m 0 c).arrAt w (cfgs 0).N) (Proc.tc.devRef main_call0_v8_1)
      = (dats m 0 c).arrAt 8 cfg0.N :=
  Pipeline.withArrays_arr (cfgs 0).spec (by decide) c (V0 m c) (fun w => (dats m 0 c).arrAt w (cfgs 0).N) 8

/-- The first result buffer after the host operations that follow the region. -/
theorem after_v0_0 (c : Dev nD) :
    Pipeline.afterTail₀ cfgs (dats m) 0 (V0 m) [hostOps1] c main_v0_0 = tail0 ((dats m 0 c).arrAt 7 cfg0.N) := by
  unfold Pipeline.afterTail₀
  simp only [hostOps1, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp
  exact congrArg tail0 (exit7 m c)

/-- The second result buffer after the host operations that follow the region. -/
theorem after_v0_1 (c : Dev nD) :
    Pipeline.afterTail₀ cfgs (dats m) 0 (V0 m) [hostOps1] c main_v0_1 = tail1 ((dats m 0 c).arrAt 8 cfg0.N) := by
  unfold Pipeline.afterTail₀
  simp only [hostOps1, List.flatten_cons, List.flatten_nil, List.append_nil, List.cons_append, List.nil_append, StableHlo.TRef.unary, StableHlo.TRef.binary, StableHlo.TRef.nullary, StableHlo.TRef.reshape, StableHlo.TRef.toBuf, StableHlo.TRef.ofBuf, cast_eq]
  after_results_simp
  exact congrArg tail1 (exit8 m c)

end Cert.KernelIdeal.Array
-- ==== Proof.KernelValue.lean ====
/-
  The kernel's two results at an index, as the mathematics of `Proof/Spec.lean` over the argument arrays.
-/
module

public import proofs.«01_k».proof.Proof.KernelArray

@[expose] public section
noncomputable section
namespace Cert.KernelIdeal.Result
open Cert.KernelIdeal Cert.KernelIdeal.Gen Cert.KernelIdeal.Entry Cert.KernelIdeal.Block Cert.KernelIdeal.Array
open Idealize.ShloMosaic Idealize.ShloMosaic.TcCoe Idealize.SL.Sem

variable (m : (ℓ : Loc nD τ sig) → Buf (Elt Ideal) ℓ)

/-- The images as a function of plain indices. -/
def argX (c : Dev nD) : Fin 2 → Fin 32 → Fin 32 → Fin 512 → EReal := fun n y x k => m ((c : Thread nD τ).loc main_arg0) (ix4 n y x k)

/-- The shared weights as a function of plain indices. -/
def argW (c : Dev nD) : Fin 3 → Fin 3 → Fin 512 → Fin 512 → EReal := fun p q k o => m ((c : Thread nD τ).loc main_arg1) (ix4 p q k o)

/-- The shared biases as a function of plain indices. -/
def argB (c : Dev nD) : Fin 512 → EReal := fun o => m ((c : Thread nD τ).loc main_arg2) (ix1 o)

/-- The class weights as a function of plain indices. -/
def argWc (c : Dev nD) : Fin 512 → Fin 18 → EReal := fun o j => m ((c : Thread nD τ).loc main_arg3) (ix4 0 0 o j)

/-- The class biases as a function of plain indices. -/
def argBc (c : Dev nD) : Fin 18 → EReal := fun j => m ((c : Thread nD τ).loc main_arg4) (ix1 j)

/-- The box weights as a function of plain indices. -/
def argWd (c : Dev nD) : Fin 512 → Fin 36 → EReal := fun o j => m ((c : Thread nD τ).loc main_arg5) (ix4 0 0 o j)

/-- The box biases as a function of plain indices. -/
def argBd (c : Dev nD) : Fin 36 → EReal := fun j => m ((c : Thread nD τ).loc main_arg6) (ix1 j)

/-- A tap of the body at a row inside the image is the tap of the convolution at that pixel. -/
theorem tap_eq (c : Dev nD) (t : Fin cfg0.N) (y x : Fin 32) (o : Fin 512) (dy dx : Fin 3) (start : ℕ) (hs : start ≤ 136)
    (hstart : start = 33 + 34 * dy.val + dx.val) (q : Fin 9) (hq : q = ⟨3 * dy.val + dx.val, by omega⟩) :
    blockTap (iblk m c 0 t) (iblk m c 1 t) ⟨y.val * 34 + (x.val + 1), by omega⟩ o start hs q
      = Spec.tap (argX m c) (argW m c) t y x o dy dx := by
  subst hq
  unfold blockTap Spec.tap
  refine Finset.sum_congr rfl fun k _ => ?_
  refine congrArg₂ (· * ·) ((iblk0 m c t _ k).trans ((V_v1_apply m c t _ k).trans ?_)) ((congrFun (iblk1 m c t) _).trans (V_v2_apply m c dy dx k o))
  have h1 : (start + (y.val * 34 + (x.val + 1))) / 34 - 1 = dy.val + y.val := by omega
  have h2 : (start + (y.val * 34 + (x.val + 1))) % 34 = dx.val + x.val := by omega
  show Spec.pixel _ _ ((start + (y.val * 34 + (x.val + 1))) / 34 - 1) ((start + (y.val * 34 + (x.val + 1))) % 34) k = _
  rw [h1, h2]
  rfl

/-- The body's shared convolution at a row inside the image is the shared convolution at that pixel. -/
theorem shared_eq (c : Dev nD) (t : Fin cfg0.N) (y x : Fin 32) (o : Fin 512) :
    blockShared (iblk m c 0 t) (iblk m c 1 t) (iblk m c 2 t) ⟨y.val * 34 + (x.val + 1), by omega⟩ o
      = Spec.shared (argX m c) (argW m c) (argB m c) t y x o := by
  unfold blockShared Spec.shared
  rw [tap_eq m c t y x o 0 0 33 _ rfl 0 rfl, tap_eq m c t y x o 0 1 34 _ rfl 1 rfl, tap_eq m c t y x o 0 2 35 _ rfl 2 rfl,
    tap_eq m c t y x o 1 0 67 _ rfl 3 rfl, tap_eq m c t y x o 1 1 68 _ rfl 4 rfl, tap_eq m c t y x o 1 2 69 _ rfl 5 rfl,
    tap_eq m c t y x o 2 0 101 _ rfl 6 rfl, tap_eq m c t y x o 2 1 102 _ rfl 7 rfl, tap_eq m c t y x o 2 2 103 _ rfl 8 rfl,
    (congrFun (iblk2 m c t) _).trans (V_v5_apply m c o)]
  rfl

/-- A class logit of the body at a row inside the image. -/
theorem logit_eq (c : Dev nD) (t : Fin cfg0.N) (y x : Fin 32) (j : Fin 18) :
    blockLogit (iblk m c 0 t) (iblk m c 1 t) (iblk m c 2 t) (iblk m c 3 t) (iblk m c 4 t) ⟨y.val * 34 + (x.val + 1), by omega⟩ j
      = Spec.head (Spec.shared (argX m c) (argW m c) (argB m c) t y x) (fun o => argWc m c o j) (argBc m c j) :=
  Spec.head_congr (fun o => shared_eq m c t y x o) (fun o => (congrFun (iblk3 m c t) _).trans (V_v3_apply m c o j))
    ((congrFun (iblk4 m c t) _).trans (V_v6_apply m c j))

/-- The array of class probabilities after the run, at any index. -/
theorem arr7_apply (c : Dev nD) (t : Fin cfg0.N) (r : Fin 1088) (j : Fin 18) :
    (dats m 0 c).arrAt 7 cfg0.N (ix3 t r j)
      = out0_7 (iblk m c 0 t) (iblk m c 1 t) (iblk m c 2 t) (iblk m c 3 t) (iblk m c 4 t) (iblk m c 5 t) (iblk m c 6 t) (ix3 0 r j) :=
  congrFun (arr7 m c (fun i => out0_7 (iblk m c 0 (i 0)) (iblk m c 1 (i 0)) (iblk m c 2 (i 0)) (iblk m c 3 (i 0)) (iblk m c 4 (i 0))
    (iblk m c 5 (i 0)) (iblk m c 6 (i 0)) (ix3 0 (i 1) (i 2))) fun _ _ _ => rfl) (ix3 t r j)

/-- The array of box offsets after the run, at any index. -/
theorem arr8_apply (c : Dev nD) (t : Fin cfg0.N) (r : Fin 1088) (j : Fin 36) :
    (dats m 0 c).arrAt 8 cfg0.N (ix3 t r j)
      = out0_8 (iblk m c 0 t) (iblk m c 1 t) (iblk m c 2 t) (iblk m c 3 t) (iblk m c 4 t) (iblk m c 5 t) (iblk m c 6 t) (ix3 0 r j) :=
  congrFun (arr8 m c (fun i => out0_8 (iblk m c 0 (i 0)) (iblk m c 1 (i 0)) (iblk m c 2 (i 0)) (iblk m c 3 (i 0)) (iblk m c 4 (i 0))
    (iblk m c 5 (i 0)) (iblk m c 6 (i 0)) (ix3 0 (i 1) (i 2))) fun _ _ _ => rfl) (ix3 t r j)

/-- The kernel's first result at class 0 of an anchor. -/
theorem result0_zero (c : Dev nD) (n : Fin 2) (k : Fin 9216) :
    tail0 ((dats m 0 c).arrAt 7 cfg0.N) (ix3 n k 0)
      = Ideal.logistic (Spec.logit (argX m c) (argW m c) (argB m c) (argWc m c) (argBc m c) n k 0
          - Spec.logit (argX m c) (argW m c) (argB m c) (argWc m c) (argBc m c) n k 1) := by
  rw [tail0_apply]
  refine (arr7_apply m c n _ _).trans ?_
  refine (out7_even _ _ _ _ _ _ _ _ ⟨k.val % 9, by omega⟩).trans ?_
  rw [logit_eq m c n ⟨k.val / 288, by omega⟩ ⟨k.val / 9 % 32, by omega⟩, logit_eq m c n ⟨k.val / 288, by omega⟩ ⟨k.val / 9 % 32, by omega⟩]
  rfl

/-- The kernel's first result at class 1 of an anchor. -/
theorem result0_one (c : Dev nD) (n : Fin 2) (k : Fin 9216) :
    tail0 ((dats m 0 c).arrAt 7 cfg0.N) (ix3 n k 1)
      = Ideal.logistic (Spec.logit (argX m c) (argW m c) (argB m c) (argWc m c) (argBc m c) n k 1
          - Spec.logit (argX m c) (argW m c) (argB m c) (argWc m c) (argBc m c) n k 0) := by
  rw [tail0_apply]
  refine (arr7_apply m c n _ _).trans ?_
  refine (out7_odd _ _ _ _ _ _ _ _ ⟨k.val % 9, by omega⟩).trans ?_
  rw [logit_eq m c n ⟨k.val / 288, by omega⟩ ⟨k.val / 9 % 32, by omega⟩, logit_eq m c n ⟨k.val / 288, by omega⟩ ⟨k.val / 9 % 32, by omega⟩]
  rfl

/-- The kernel's second result at an index. -/
theorem result1_apply (c : Dev nD) (n : Fin 2) (k : Fin 9216) (i : Fin 4) :
    tail1 ((dats m 0 c).arrAt 8 cfg0.N) (ix3 n k i)
      = Spec.offset (argX m c) (argW m c) (argB m c) (argWd m c) (argBd m c) n k i := by
  rw [tail1_apply]
  refine (arr8_apply m c n _ _).trans ?_
  refine (out8_apply _ _ _ _ _ _ _ _ _).trans ?_
  exact Spec.head_congr (fun o => shared_eq m c n ⟨k.val / 288, by omega⟩ ⟨k.val / 9 % 32, by omega⟩ o)
    (fun o => (congrFun (iblk5 m c n) _).trans (V_v4_apply m c o _)) ((congrFun (iblk6 m c n) _).trans (V_v7_apply m c _))

end Cert.KernelIdeal.Result
-- ==== Proof.Reference.lean ====
/-
  What the reference's two results are at an index, at the extended reals. The generated closed terms are cut into their
  stages (the padding, one tap, the shared convolution, the two heads, the softmax), and each stage is read at an index.
-/
module

public import proofs.«01_k».proof.Proof.Gen.ReferenceIdeal.Run
public import proofs.«01_k».proof.Proof.Spec
public import Idealize.ShloMosaic.Lib.Pointwise
public import Idealize.ShloMosaic.Lib.Claim

@[expose] public section
noncomputable section
namespace Cert.ReferenceIdeal.Read
open Cert.ReferenceIdeal Cert.ReferenceIdeal.Gen Cert.ReferenceIdeal.Value Idealize.ShloMosaic Idealize.ShloMosaic.TcCoe Idealize.SL.Sem

variable {F : FTy → Type} [FloatOps F]

/-- The image padded by one pixel of zeros on each side. -/
def padded (X : FVec F S2x32x32x512 .f32) : FVec F S2x34x34x512 .f32 :=
  pad S2x34x34x512 ![0, 1, 1, 0] ![0, 1, 1, 0] ![0, 0, 0, 0] X (sitofp .f32 (constantI S_ 32 0#32)) pads_S2x32x32x512_S2x34x34x512_000_110_110_000 h_S_

/-- One tap of the 3x3 convolution: a shifted window of the padded image contracted with one slice of the weights. -/
def tap (dy dx : ℕ) (hx : S2x34x34x512.Slices ![0, dy, dx, 0] S2x32x32x512) (hw : S3x3x512x512.Slices ![dy, dx, 0, 0] S1x1x512x512)
    (X : FVec F S2x32x32x512 .f32) (W : FVec F S3x3x512x512 .f32) : FVec F S2x32x32x512 .f32 :=
  Host.dotGeneral dot_S2x32x32x512_S512x512_S2x32x32x512_3_0_012_1_n_n none (extractStridedSlice S2x32x32x512 ![0, dy, dx, 0] (padded X) hx)
    (shapeCast S512x512 (extractStridedSlice S1x1x512x512 ![dy, dx, 0, 0] W hw) shapeCasts_S1x1x512x512_S512x512)

/-- The shared convolution: the nine taps added from zero, the bias added, the rectifier. -/
def sharedTerm (X : FVec F S2x32x32x512 .f32) (W : FVec F S3x3x512x512 .f32) (b : FVec F S512 .f32) : FVec F S2x32x32x512 .f32 :=
  maximumf (addf (addf (addf (addf (addf (addf (addf (addf (addf (addf (broadcastInDim S2x32x32x512 ![] bcast_S_S2x32x32x512 (constant S_ .f32 0x00000000#32))
    (tap 0 0 slices_S2x34x34x512_S2x32x32x512_0_0_0_0 slices_S3x3x512x512_S1x1x512x512_0_0_0_0 X W))
    (tap 0 1 slices_S2x34x34x512_S2x32x32x512_0_0_1_0 slices_S3x3x512x512_S1x1x512x512_0_1_0_0 X W))
    (tap 0 2 slices_S2x34x34x512_S2x32x32x512_0_0_2_0 slices_S3x3x512x512_S1x1x512x512_0_2_0_0 X W))
    (tap 1 0 slices_S2x34x34x512_S2x32x32x512_0_1_0_0 slices_S3x3x512x512_S1x1x512x512_1_0_0_0 X W))
    (tap 1 1 slices_S2x34x34x512_S2x32x32x512_0_1_1_0 slices_S3x3x512x512_S1x1x512x512_1_1_0_0 X W))
    (tap 1 2 slices_S2x34x34x512_S2x32x32x512_0_1_2_0 slices_S3x3x512x512_S1x1x512x512_1_2_0_0 X W))
    (tap 2 0 slices_S2x34x34x512_S2x32x32x512_0_2_0_0 slices_S3x3x512x512_S1x1x512x512_2_0_0_0 X W))
    (tap 2 1 slices_S2x34x34x512_S2x32x32x512_0_2_1_0 slices_S3x3x512x512_S1x1x512x512_2_1_0_0 X W))
    (tap 2 2 slices_S2x34x34x512_S2x32x32x512_0_2_2_0 slices_S3x3x512x512_S1x1x512x512_2_2_0_0 X W))
    (broadcastInDim S2x32x32x512 ![0, 1, 2, 3] bcast_S1x1x1x512_S2x32x32x512_0_1_2_3 (broadcastInDim S1x1x1x512 ![3] bcast_S512_S1x1x1x512_3 b)))
    (broadcastInDim S2x32x32x512 ![] bcast_S_S2x32x32x512 (constant S_ .f32 0x00000000#32))

/-- The class head: a 1x1 convolution with bias, reshaped to one row per anchor. -/
def logitsTerm (s : FVec F S2x32x32x512 .f32) (w : FVec F S1x1x512x18 .f32) (b : FVec F S18 .f32) : FVec F S2x9216x2 .f32 :=
  shapeCast S2x9216x2 (addf (Host.dotGeneral dot_S2x32x32x512_S512x18_S2x32x32x18_3_0_012_1_n_n none s (shapeCast S512x18 w shapeCasts_S1x1x512x18_S512x18))
    (broadcastInDim S2x32x32x18 ![0, 1, 2, 3] bcast_S1x1x1x18_S2x32x32x18_0_1_2_3 (broadcastInDim S1x1x1x18 ![3] bcast_S18_S1x1x1x18_3 b)))
    shapeCasts_S2x32x32x18_S2x9216x2

/-- The box head: a 1x1 convolution with bias, reshaped to one row per anchor. -/
def deltasTerm (s : FVec F S2x32x32x512 .f32) (w : FVec F S1x1x512x36 .f32) (b : FVec F S36 .f32) : FVec F S2x9216x4 .f32 :=
  shapeCast S2x9216x4 (addf (Host.dotGeneral dot_S2x32x32x512_S512x36_S2x32x32x36_3_0_012_1_n_n none s (shapeCast S512x36 w shapeCasts_S1x1x512x36_S512x36))
    (broadcastInDim S2x32x32x36 ![0, 1, 2, 3] bcast_S1x1x1x36_S2x32x32x36_0_1_2_3 (broadcastInDim S1x1x1x36 ![3] bcast_S36_S1x1x1x36_3 b)))
    shapeCasts_S2x32x32x36_S2x9216x4

/-- The exponentials of the logits less their largest. -/
def expTerm (l : FVec F S2x9216x2 .f32) : FVec F S2x9216x2 .f32 :=
  Host.exp (subf l (broadcastInDim S2x9216x2 ![0, 1, 2] bcast_S2x9216x1_S2x9216x2_0_1_2 (broadcastInDim S2x9216x1 ![0, 1] bcast_S2x9216_S2x9216x1_0_1
    (maximumf (broadcastInDim S2x9216 ![] bcast_S_S2x9216 (constant S_ .f32 0xFF800000#32))
      (Host.reduce FloatOps.maximumf l (constant S_ .f32 0xFF800000#32) reducesTo_S2x9216x2_S2x9216_d2 h_S_)))))

/-- The softmax over the two classes. -/
def softmaxTerm (l : FVec F S2x9216x2 .f32) : FVec F S2x9216x2 .f32 :=
  Host.divf (expTerm l) (broadcastInDim S2x9216x2 ![0, 1, 2] bcast_S2x9216x1_S2x9216x2_0_1_2 (broadcastInDim S2x9216x1 ![0, 1] bcast_S2x9216_S2x9216x1_0_1
    (Host.reduceAdd (expTerm l) (constant S_ .f32 0x00000000#32) reducesTo_S2x9216x2_S2x9216_d2 h_S_)))

set_option maxRecDepth 8192 in
/-- The first result is the softmax of the class head of the shared convolution. -/
theorem res_out0_eq (m : (ℓ : Loc nD τ sig) → Buf (Elt F) ℓ) (c : Dev nD) :
    res_out0 m c = softmaxTerm (logitsTerm (sharedTerm (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))) := by
  unfold res_out0 res_main_v67
  rfl

set_option maxRecDepth 8192 in
/-- The second result is the box head of the shared convolution. -/
theorem res_out1_eq (m : (ℓ : Loc nD τ sig) → Buf (Elt F) ℓ) (c : Dev nD) :
    res_out1 m c = deltasTerm (sharedTerm (m ((c.tc : Thread nD τ).loc main_arg0)) (m ((c.tc : Thread nD τ).loc main_arg1)) (m ((c.tc : Thread nD τ).loc main_arg2)))
      (m ((c.tc : Thread nD τ).loc main_arg5)) (m ((c.tc : Thread nD τ).loc main_arg6)) := by
  unfold res_out1 res_main_v73
  rfl

/-- The integer zero that pads, converted, is the real zero. -/
theorem sitofp_zero : (FloatOps.sitofp FTy.f32 0#32 : Ideal .f32) = (0 : EReal) := by
  show (((0#32 : BitVec 32).toInt : ℝ) : EReal) = 0
  simp

/-- The bits of the negative infinity are the least extended real. -/
theorem ofBits_bot : Ideal.ofBits FTy.f32 4286578688#32 = (⊥ : EReal) := by
  simp [Ideal.ofBits, Ideal.ieee]

/-- The padded image at an index. -/
theorem padded_apply (X : FVec Ideal S2x32x32x512 .f32) (n : Fin 2) (y x : Fin 34) (k : Fin 512) :
    padded X (ix4 n y x k) = Spec.pixel (fun a b c d => X (ix4 a b c d)) n y x k := by
  pointwise [padded, Spec.pixel]
  rw [sitofp_zero]

/-- The shared convolution at an index. -/
theorem sharedTerm_apply (X : FVec Ideal S2x32x32x512 .f32) (W : FVec Ideal S3x3x512x512 .f32) (b : FVec Ideal S512 .f32)
    (n : Fin 2) (y x : Fin 32) (k : Fin 512) :
    sharedTerm X W b (ix4 n y x k)
      = Spec.shared (fun a b c d => X (ix4 a b c d)) (fun a b c d => W (ix4 a b c d)) (fun a => b (ix1 a)) n y x k := by
  pointwise [sharedTerm, tap, Spec.shared, Spec.tap]
  simp only [padded_apply]

/-- A class logit at an index. -/
theorem logitsTerm_apply (s : FVec Ideal S2x32x32x512 .f32) (w : FVec Ideal S1x1x512x18 .f32) (b : FVec Ideal S18 .f32)
    (n : Fin 2) (k : Fin 9216) (i : Fin 2) :
    logitsTerm s w b (ix3 n k i)
      = Spec.head (fun o => s (ix4 n ⟨k / 288, by omega⟩ ⟨k / 9 % 32, by omega⟩ o)) (fun o => w (ix4 0 0 o ⟨k % 9 * 2 + i, by omega⟩))
          (b (ix1 ⟨k % 9 * 2 + i, by omega⟩)) := by
  pointwise [logitsTerm, Spec.head]

/-- A box offset at an index. -/
theorem deltasTerm_apply (s : FVec Ideal S2x32x32x512 .f32) (w : FVec Ideal S1x1x512x36 .f32) (b : FVec Ideal S36 .f32)
    (n : Fin 2) (k : Fin 9216) (i : Fin 4) :
    deltasTerm s w b (ix3 n k i)
      = Spec.head (fun o => s (ix4 n ⟨k / 288, by omega⟩ ⟨k / 9 % 32, by omega⟩ o)) (fun o => w (ix4 0 0 o ⟨k % 9 * 4 + i, by omega⟩))
          (b (ix1 ⟨k % 9 * 4 + i, by omega⟩)) := by
  pointwise [deltasTerm, Spec.head]

/-- A class logit over the shared convolution is the logit of the mathematics. -/
theorem logits_spec (X : FVec Ideal S2x32x32x512 .f32) (W : FVec Ideal S3x3x512x512 .f32) (b : FVec Ideal S512 .f32)
    (w : FVec Ideal S1x1x512x18 .f32) (bc : FVec Ideal S18 .f32) (n : Fin 2) (k : Fin 9216) (i : Fin 2) :
    logitsTerm (sharedTerm X W b) w bc (ix3 n k i)
      = Spec.logit (fun n y x k => X (ix4 n y x k)) (fun p q k o => W (ix4 p q k o)) (fun o => b (ix1 o)) (fun o j => w (ix4 0 0 o j))
          (fun j => bc (ix1 j)) n k i :=
  (logitsTerm_apply _ w bc n k i).trans (Spec.head_congr (fun _ => sharedTerm_apply ..) (fun _ => rfl) rfl)

/-- A box offset over the shared convolution is the offset of the mathematics. -/
theorem deltas_spec (X : FVec Ideal S2x32x32x512 .f32) (W : FVec Ideal S3x3x512x512 .f32) (b : FVec Ideal S512 .f32)
    (w : FVec Ideal S1x1x512x36 .f32) (bd : FVec Ideal S36 .f32) (n : Fin 2) (k : Fin 9216) (i : Fin 4) :
    deltasTerm (sharedTerm X W b) w bd (ix3 n k i)
      = Spec.offset (fun n y x k => X (ix4 n y x k)) (fun p q k o => W (ix4 p q k o)) (fun o => b (ix1 o)) (fun o j => w (ix4 0 0 o j))
          (fun j => bd (ix1 j)) n k i :=
  (deltasTerm_apply _ w bd n k i).trans (Spec.head_congr (fun _ => sharedTerm_apply ..) (fun _ => rfl) rfl)

/-- The softmax at an index, over any two logits. -/
theorem softmaxTerm_apply (l : FVec Ideal S2x9216x2 .f32) (n : Fin 2) (k : Fin 9216) (i : Fin 2) :
    softmaxTerm l (ix3 n k i) = Ideal.div (Ideal.exp (l (ix3 n k i) - max (l (ix3 n k 0)) (l (ix3 n k 1))))
      (Ideal.exp (l (ix3 n k 0) - max (l (ix3 n k 0)) (l (ix3 n k 1))) + Ideal.exp (l (ix3 n k 1) - max (l (ix3 n k 0)) (l (ix3 n k 1)))) := by
  pointwise [softmaxTerm, expTerm]
  rw [ofBits_bot]
  have hmax : max (⊥ : EReal) (Finset.fold max (⊥ : EReal) (fun x => l (ix3 n k x)) Finset.univ) = max (l (ix3 n k 0)) (l (ix3 n k 1)) := by
    rw [show (Finset.univ : Finset (Fin 2)) = {0, 1} from rfl, Finset.fold_insert (by decide), Finset.fold_singleton]
    simp
  rw [hmax, Fin.sum_univ_two]

end Cert.ReferenceIdeal.Read
-- ==== Proof.Softmax.lean ====
/-
  The softmax of two real numbers is the logistic function of their difference; and a logit of finite arguments is real.
-/
module

public import proofs.«01_k».proof.Proof.Spec
public import Idealize.ShloMosaic.Lib.Pointwise

@[expose] public section
noncomputable section
namespace Cert.Spec
open Idealize.ShloMosaic

/-- An extended real that is a real number. -/
def IsReal (v : EReal) : Prop := ∃ r : ℝ, v = r

/-- The softmax of two reals, written with the larger subtracted, at the first. -/
theorem softmax_fst {x y : EReal} (hx : IsReal x) (hy : IsReal y) :
    Ideal.div (Ideal.exp (x - max x y)) (Ideal.exp (x - max x y) + Ideal.exp (y - max x y)) = Ideal.logistic (x - y) := by
  obtain ⟨a, rfl⟩ := hx
  obtain ⟨b, rfl⟩ := hy
  rw [show max (a : EReal) b = ((max a b : ℝ) : EReal) from (EReal.coe_strictMono.monotone.map_max).symm, ← EReal.coe_sub, ← EReal.coe_sub, ← EReal.coe_sub, Ideal.exp_coe, Ideal.exp_coe, Ideal.logistic_coe,
    ← EReal.coe_add, Ideal.div_coe (by positivity), ← EReal.coe_mul]
  congr 1
  rw [mul_one_div, ← one_div, div_eq_div_iff (by positivity) (by positivity), one_mul, mul_add, mul_one, ← Real.exp_add]
  ring_nf

/-- The softmax of two reals, written with the larger subtracted, at the second. -/
theorem softmax_snd {x y : EReal} (hx : IsReal x) (hy : IsReal y) :
    Ideal.div (Ideal.exp (y - max x y)) (Ideal.exp (x - max x y) + Ideal.exp (y - max x y)) = Ideal.logistic (y - x) := by
  rw [max_comm, add_comm]
  exact softmax_fst hy hx

/-- Zero is real. -/
theorem real_zero : IsReal 0 := ⟨0, rfl⟩

/-- A sum of reals is real. -/
theorem real_add {x y : EReal} (hx : IsReal x) (hy : IsReal y) : IsReal (x + y) := by
  obtain ⟨a, rfl⟩ := hx
  obtain ⟨b, rfl⟩ := hy
  exact ⟨a + b, rfl⟩

/-- A product of reals is real. -/
theorem real_mul {x y : EReal} (hx : IsReal x) (hy : IsReal y) : IsReal (x * y) := by
  obtain ⟨a, rfl⟩ := hx
  obtain ⟨b, rfl⟩ := hy
  exact ⟨a * b, rfl⟩

/-- The larger of two reals is real. -/
theorem real_max {x y : EReal} (hx : IsReal x) (hy : IsReal y) : IsReal (max x y) := by
  rcases max_choice x y with h | h <;> rw [h] <;> assumption

/-- A finite sum of reals is real. -/
theorem real_sum {ι : Type} (s : Finset ι) (f : ι → EReal) (h : ∀ i, IsReal (f i)) : IsReal (∑ i ∈ s, f i) := by
  classical
  induction s using Finset.induction_on with
  | empty => exact real_zero
  | insert a s ha ih => rw [Finset.sum_insert ha]; exact real_add (h a) ih

/-- The padded image of a real image is real. -/
theorem real_pixel {X : Fin 2 → Fin 32 → Fin 32 → Fin 512 → EReal} (hX : ∀ n y x k, IsReal (X n y x k)) (n : Fin 2) (p q : ℕ) (k : Fin 512) :
    IsReal (pixel X n p q k) := by
  unfold pixel
  split
  · exact hX ..
  · exact real_zero

/-- A tap over real arguments is real. -/
theorem real_tap {X : Fin 2 → Fin 32 → Fin 32 → Fin 512 → EReal} {W : Fin 3 → Fin 3 → Fin 512 → Fin 512 → EReal}
    (hX : ∀ n y x k, IsReal (X n y x k)) (hW : ∀ p q k o, IsReal (W p q k o)) (n : Fin 2) (y x : ℕ) (o : Fin 512) (dy dx : Fin 3) :
    IsReal (tap X W n y x o dy dx) :=
  real_sum _ _ fun k => real_mul (real_pixel hX ..) (hW ..)

/-- The shared convolution over real arguments is real. -/
theorem real_shared {X : Fin 2 → Fin 32 → Fin 32 → Fin 512 → EReal} {W : Fin 3 → Fin 3 → Fin 512 → Fin 512 → EReal} {b : Fin 512 → EReal}
    (hX : ∀ n y x k, IsReal (X n y x k)) (hW : ∀ p q k o, IsReal (W p q k o)) (hb : ∀ o, IsReal (b o)) (n : Fin 2) (y x : ℕ) (o : Fin 512) :
    IsReal (shared X W b n y x o) := by
  have ht := real_tap hX hW n y x o
  exact real_max (real_add (real_add (real_add (real_add (real_add (real_add (real_add (real_add (real_add (ht 0 0) (ht 0 1)) (ht 0 2))
    (ht 1 0)) (ht 1 1)) (ht 1 2)) (ht 2 0)) (ht 2 1)) (ht 2 2)) (hb o)) real_zero

/-- A class logit over real arguments is real. -/
theorem real_logit {X : Fin 2 → Fin 32 → Fin 32 → Fin 512 → EReal} {W : Fin 3 → Fin 3 → Fin 512 → Fin 512 → EReal} {b : Fin 512 → EReal}
    {w : Fin 512 → Fin 18 → EReal} {bc : Fin 18 → EReal}
    (hX : ∀ n y x k, IsReal (X n y x k)) (hW : ∀ p q k o, IsReal (W p q k o)) (hb : ∀ o, IsReal (b o))
    (hw : ∀ k j, IsReal (w k j)) (hbc : ∀ j, IsReal (bc j)) (n : Fin 2) (k : Fin 9216) (i : Fin 2) :
    IsReal (logit X W b w bc n k i) :=
  real_add (real_sum _ _ fun o => real_mul (real_shared hX hW hb ..) (hw ..)) (hbc _)

end Cert.Spec
-- ==== Proof.Equal.lean ====
/-
  The kernel's two results are the reference's, from memories that agree on the arguments.
-/
module

public import proofs.«01_k».proof.Proof.KernelValue
public import proofs.«01_k».proof.Proof.Reference
public import proofs.«01_k».proof.Proof.Softmax

@[expose] public section
noncomputable section
namespace Cert.Equal
open Idealize.ShloMosaic Idealize.ShloMosaic.TcCoe Idealize.SL.Sem
open Cert.KernelIdeal.Gen Cert.KernelIdeal.Array Cert.KernelIdeal.Result

/-- Every index of a rank-three array is given by its three coordinates. -/
theorem exists_ix3 {a b d : ℕ} (j : (⟨3, ![a, b, d]⟩ : Shape).Idx) : ∃ (n : Fin a) (k : Fin b) (i : Fin d), j = ix3 n k i :=
  ⟨j 0, j 1, j 2, by
    funext x
    match x with
    | ⟨0, _⟩ => rfl
    | ⟨1, _⟩ => rfl
    | ⟨2, _⟩ => rfl⟩

variable (m : (ℓ : Loc Cert.KernelIdeal.nD Cert.KernelIdeal.τ Cert.KernelIdeal.sig) → Buf (Elt Ideal) ℓ) (c : Dev Cert.KernelIdeal.nD)

/-- The softmax of the reference's class logits is the kernel's first result, when the arrays behind the logits are real. -/
theorem result0 (X : FVec Ideal Cert.ReferenceIdeal.S2x32x32x512 .f32) (W : FVec Ideal Cert.ReferenceIdeal.S3x3x512x512 .f32)
    (b : FVec Ideal Cert.ReferenceIdeal.S512 .f32) (w : FVec Ideal Cert.ReferenceIdeal.S1x1x512x18 .f32) (bc : FVec Ideal Cert.ReferenceIdeal.S18 .f32)
    (hX : X = m ((c.tc : Thread Cert.KernelIdeal.nD Cert.KernelIdeal.τ).loc Cert.KernelIdeal.main_arg0))
    (hW : W = m ((c.tc : Thread Cert.KernelIdeal.nD Cert.KernelIdeal.τ).loc Cert.KernelIdeal.main_arg1))
    (hb : b = m ((c.tc : Thread Cert.KernelIdeal.nD Cert.KernelIdeal.τ).loc Cert.KernelIdeal.main_arg2))
    (hw : w = m ((c.tc : Thread Cert.KernelIdeal.nD Cert.KernelIdeal.τ).loc Cert.KernelIdeal.main_arg3))
    (hbc : bc = m ((c.tc : Thread Cert.KernelIdeal.nD Cert.KernelIdeal.τ).loc Cert.KernelIdeal.main_arg4))
    (rX : ∀ i, Spec.IsReal (X i)) (rW : ∀ i, Spec.IsReal (W i)) (rb : ∀ i, Spec.IsReal (b i)) (rw' : ∀ i, Spec.IsReal (w i)) (rbc : ∀ i, Spec.IsReal (bc i)) :
    Cert.ReferenceIdeal.Read.softmaxTerm (Cert.ReferenceIdeal.Read.logitsTerm (Cert.ReferenceIdeal.Read.sharedTerm X W b) w bc)
      = tail0 ((dats m 0 c).arrAt 7 Cert.KernelIdeal.cfg0.N) := by
  funext j
  obtain ⟨n, k, i, rfl⟩ := exists_ix3 j
  rw [Cert.ReferenceIdeal.Read.softmaxTerm_apply]
  simp only [Cert.ReferenceIdeal.Read.logits_spec]
  have hreal := fun i => Spec.real_logit (X := fun n y x k => X (ix4 n y x k)) (W := fun p q k o => W (ix4 p q k o)) (b := fun o => b (ix1 o))
    (w := fun o j => w (ix4 0 0 o j)) (bc := fun j => bc (ix1 j))
    (fun _ _ _ _ => rX _) (fun _ _ _ _ => rW _) (fun _ => rb _) (fun _ _ => rw' _) (fun _ => rbc _) n k i
  match i with
  | ⟨0, _⟩ =>
    refine (Spec.softmax_fst (hreal 0) (hreal 1)).trans ?_
    subst hX hW hb hw hbc
    exact (result0_zero m c n k).symm
  | ⟨1, _⟩ =>
    refine (Spec.softmax_snd (hreal 0) (hreal 1)).trans ?_
    subst hX hW hb hw hbc
    exact (result0_one m c n k).symm

/-- The reference's box offsets are the kernel's second result. -/
theorem result1 (X : FVec Ideal Cert.ReferenceIdeal.S2x32x32x512 .f32) (W : FVec Ideal Cert.ReferenceIdeal.S3x3x512x512 .f32)
    (b : FVec Ideal Cert.ReferenceIdeal.S512 .f32) (w : FVec Ideal Cert.ReferenceIdeal.S1x1x512x36 .f32) (bd : FVec Ideal Cert.ReferenceIdeal.S36 .f32)
    (hX : X = m ((c.tc : Thread Cert.KernelIdeal.nD Cert.KernelIdeal.τ).loc Cert.KernelIdeal.main_arg0))
    (hW : W = m ((c.tc : Thread Cert.KernelIdeal.nD Cert.KernelIdeal.τ).loc Cert.KernelIdeal.main_arg1))
    (hb : b = m ((c.tc : Thread Cert.KernelIdeal.nD Cert.KernelIdeal.τ).loc Cert.KernelIdeal.main_arg2))
    (hw : w = m ((c.tc : Thread Cert.KernelIdeal.nD Cert.KernelIdeal.τ).loc Cert.KernelIdeal.main_arg5))
    (hbd : bd = m ((c.tc : Thread Cert.KernelIdeal.nD Cert.KernelIdeal.τ).loc Cert.KernelIdeal.main_arg6)) :
    Cert.ReferenceIdeal.Read.deltasTerm (Cert.ReferenceIdeal.Read.sharedTerm X W b) w bd = tail1 ((dats m 0 c).arrAt 8 Cert.KernelIdeal.cfg0.N) := by
  funext j
  obtain ⟨n, k, i, rfl⟩ := exists_ix3 j
  rw [Cert.ReferenceIdeal.Read.deltas_spec]
  subst hX hW hb hw hbd
  exact (result1_apply m c n k i).symm

end Cert.Equal
-- ==== Proof.Finite.lean ====
/-
  What the precondition says at the extended reals: every element of the five arrays it names is a real number.
-/
module

public import proofs.«01_k».proof.Defs
public import proofs.«01_k».proof.Proof.Softmax
public import Idealize.ShloMosaic.Lib.Pointwise

@[expose] public section
noncomputable section
namespace Cert.Pre_finite_inputs
open Idealize.ShloMosaic

/-- The side conditions of the precondition's broadcasts. -/
theorem facts : Facts := ⟨by decide, by decide, by decide, by decide, by decide⟩

/-- An extended real whose absolute value compares below the infinity is a real number. -/
theorem isReal_of_olt (x : Ideal .f32) (h : FloatOps.cmpf .olt (FloatOps.hostAbsf x) (FloatOps.ofBits (F := Ideal) .f32 0x7F800000#32) = 1#1) :
    Spec.IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  induction x using EReal.rec with
  | bot => simp at h'
  | top => simp at h'
  | coe r => exact ⟨r, rfl⟩

variable [Facts]

/-- The precondition's five conditions, element by element. -/
theorem real_of_fn (a0 : FVec Ideal S2x32x32x512 .f32) (a1 : FVec Ideal S3x3x512x512 .f32) (a2 : FVec Ideal S512 .f32)
    (a3 : FVec Ideal S1x1x512x18 .f32) (a4 : FVec Ideal S18 .f32) (a5 : FVec Ideal S1x1x512x36 .f32) (a6 : FVec Ideal S36 .f32)
    (h0 : (fn a0 a1 a2 a3 a4 a5 a6).1 = fun _ => 1#1) (h1 : (fn a0 a1 a2 a3 a4 a5 a6).2.1 = fun _ => 1#1)
    (h2 : (fn a0 a1 a2 a3 a4 a5 a6).2.2.1 = fun _ => 1#1) (h3 : (fn a0 a1 a2 a3 a4 a5 a6).2.2.2.1 = fun _ => 1#1)
    (h4 : (fn a0 a1 a2 a3 a4 a5 a6).2.2.2.2 = fun _ => 1#1) :
    (∀ i, Spec.IsReal (a0 i)) ∧ (∀ i, Spec.IsReal (a1 i)) ∧ (∀ i, Spec.IsReal (a2 i)) ∧ (∀ i, Spec.IsReal (a3 i)) ∧ (∀ i, Spec.IsReal (a4 i)) :=
  ⟨fun i => isReal_of_olt _ (congrFun h0 i), fun i => isReal_of_olt _ (congrFun h1 i), fun i => isReal_of_olt _ (congrFun h2 i),
    fun i => isReal_of_olt _ (congrFun h3 i), fun i => isReal_of_olt _ (congrFun h4 i)⟩

end Cert.Pre_finite_inputs
-- ==== Proof.lean ====
/-
  The certificate's claim: the three frames, the idealization of the kernel, and the equality of the kernel's and the
  reference's results over the extended reals under the precondition that the arrays behind the class logits are real.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem

/-- The reference terminates, leaves its arguments alone, and holds no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run m g)

/-- From memories agreeing on the arguments, with the arrays behind the class logits real, the kernel and the reference
    end with equal results. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.facts) := by
  intro m g m' g' hpre hagree
  refine ⟨fun c => Cert.KernelIdeal.Array.tail0 ((Cert.KernelIdeal.Gen.dats m 0 c).arrAt 7 Cert.KernelIdeal.cfg0.N),
    fun c => Cert.KernelIdeal.Array.tail1 ((Cert.KernelIdeal.Gen.dats m 0 c).arrAt 8 Cert.KernelIdeal.cfg0.N), ?_, ?_⟩
  · refine (θ_run Cert.KernelIdeal.defs _ _).mono (fun r h c => ?_)
      (θ_run_and (Cert.KernelIdeal.Gen.run_main m g) (Cert.KernelIdeal.Gen.unchanged m g))
    exact ⟨((h.1 c).2 Cert.KernelIdeal.main_v0_0 (Pipeline.mem_restRefs_of Cert.KernelIdeal.main_v0_0 (by decide) (by decide))).trans
        (Cert.KernelIdeal.Array.after_v0_0 m c),
      ((h.1 c).2 Cert.KernelIdeal.main_v0_1 (Pipeline.mem_restRefs_of Cert.KernelIdeal.main_v0_1 (by decide) (by decide))).trans
        (Cert.KernelIdeal.Array.after_v0_1 m c), h.2 c⟩
  · refine (θ_run Cert.ReferenceIdeal.defs _ _).mono (fun r h c => ?_) (Cert.ReferenceIdeal.Value.run m' g')
    obtain ⟨a0, a1, a2, a3, a4, a5, a6⟩ := hagree c
    obtain ⟨p0, p1, p2, p3, p4⟩ := hpre c
    obtain ⟨r0, r1, r2, r3, r4⟩ := @Cert.Pre_finite_inputs.real_of_fn Cert.Pre_finite_inputs.facts _ _ _ _ _ _ _ p0 p1 p2 p3 p4
    refine ⟨(h c).1.trans ((Cert.ReferenceIdeal.Read.res_out0_eq m' c).trans ?_), (h c).2.1.trans ((Cert.ReferenceIdeal.Read.res_out1_eq m' c).trans ?_), (h c).2.2⟩
    · rw [← a0] at r0
      rw [← a1] at r1
      rw [← a2] at r2
      rw [← a3] at r3
      rw [← a4] at r4
      exact Cert.Equal.result0 m c _ _ _ _ _ a0 a1 a2 a3 a4 r0 r1 r2 r3 r4
    · exact Cert.Equal.result1 m c _ _ _ _ _ a0 a1 a2 a5 a6

/-- Everything the certificate claims. -/
theorem claim : Cert.Claim := ⟨Cert.Kernel.Gen.facts, Cert.KernelIdeal.Gen.facts, Cert.ReferenceIdeal.Gen.facts, Cert.Pre_finite_inputs.facts,
  fun m g _ => Cert.Kernel.Gen.frame m g, fun m g _ => Cert.KernelIdeal.Gen.frame m g, fun m g _ => Cert.KernelIdeal.Gen.frame m g,
  frame_reference, fun m g _ => frame_reference m g trivial, trivial, algebraic⟩

end Cert.Proof

end
